-- ==== Defs.lean ====
def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v23)) (v1 : (c : Dev Cert.KvIdeal.nD) → Buf (Elt Ideal) ((c.tc : Thread Cert.KvIdeal.nD Cert.KvIdeal.τ).loc Cert.KvIdeal.main_v24)) (v2 : (c : Dev Cert.KvIdeal.nD) → Buf (Elt Ideal) ((c.tc : Thread Cert.KvIdeal.nD Cert.KvIdeal.τ).loc Cert.KvIdeal.main_v26)) (v3 : (c : Dev Cert.KvIdeal.nD) → Buf (Elt Ideal) ((c.tc : Thread Cert.KvIdeal.nD Cert.KvIdeal.τ).loc Cert.KvIdeal.main_v27)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v23) = v0 c
          ∧ r.2.mem ((c.tc : Thread Cert.KvIdeal.nD Cert.KvIdeal.τ).loc Cert.KvIdeal.main_v24) = v1 c
          ∧ r.2.mem ((c.tc : Thread Cert.KvIdeal.nD Cert.KvIdeal.τ).loc Cert.KvIdeal.main_v26) = v2 c
          ∧ r.2.mem ((c.tc : Thread Cert.KvIdeal.nD Cert.KvIdeal.τ).loc Cert.KvIdeal.main_v27) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v27_0) = v0 c
          ∧ r.2.mem ((c.tc : Thread Cert.KvRefIdeal.nD Cert.KvRefIdeal.τ).loc Cert.KvRefIdeal.main_v27_1) = v1 c
          ∧ r.2.mem ((c.tc : Thread Cert.KvRefIdeal.nD Cert.KvRefIdeal.τ).loc Cert.KvRefIdeal.main_v27_2) = v2 c
          ∧ r.2.mem ((c.tc : Thread Cert.KvRefIdeal.nD Cert.KvRefIdeal.τ).loc Cert.KvRefIdeal.main_v27_3) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def Claim : Prop :=
  ∃ (hKv : Cert.Kv.Facts) (hKvIdeal : Cert.KvIdeal.Facts) (hKvRefIdeal : Cert.KvRefIdeal.Facts),
    quiescent_Kv (hKv := hKv)
    ∧ quiescent_KvIdeal (hKvIdeal := hKvIdeal)
    ∧ quiescent_KvRefIdeal (hKvRefIdeal := hKvRefIdeal)
    ∧ preserves_Kv_KvIdeal
    ∧ algebraic_KvIdeal_KvRefIdeal (hKvIdeal := hKvIdeal) (hKvRefIdeal := hKvRefIdeal)
-- ==== Kv.lean ====
abbrev S6x2048x4096 : Shape := ⟨3, ![6, 2048, 4096]⟩
abbrev S4096 : Shape := ⟨1, ![4096]⟩
abbrev S4096x384 : Shape := ⟨2, ![4096, 384]⟩
abbrev S384 : Shape := ⟨1, ![384]⟩
abbrev S48 : Shape := ⟨1, ![48]⟩
abbrev S_ : Shape := ⟨0, ![]⟩
abbrev S48x1 : Shape := ⟨2, ![48, 1]⟩
abbrev S2048 : Shape := ⟨1, ![2048]⟩
abbrev S1x2048 : Shape := ⟨2, ![1, 2048]⟩
abbrev S48x2048 : Shape := ⟨2, ![48, 2048]⟩
abbrev S768 : Shape := ⟨1, ![768]⟩
abbrev S768x1 : Shape := ⟨2, ![768, 1]⟩
abbrev S768x128 : Shape := ⟨2, ![768, 128]⟩
abbrev S1x4096 : Shape := ⟨2, ![1, 4096]⟩
abbrev S6x384x2048 : Shape := ⟨3, ![6, 384, 2048]⟩
abbrev S6x4x2048 : Shape := ⟨3, ![6, 4, 2048]⟩
abbrev S1x256x4096 : Shape := ⟨3, ![1, 256, 4096]⟩
abbrev S48x256 : Shape := ⟨2, ![48, 256]⟩
abbrev S1x384x256 : Shape := ⟨3, ![1, 384, 256]⟩
abbrev S1x4x256 : Shape := ⟨3, ![1, 4, 256]⟩
abbrev S768x4096 : Shape := ⟨2, ![768, 4096]⟩
abbrev S256x4096 : Shape := ⟨2, ![256, 4096]⟩
abbrev S512x384 : Shape := ⟨2, ![512, 384]⟩
abbrev S384x512 : Shape := ⟨2, ![384, 512]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩
abbrev S768x256 : Shape := ⟨2, ![768, 256]⟩
abbrev S96x256 : Shape := ⟨2, ![96, 256]⟩
abbrev S256 : Shape := ⟨1, ![256]⟩
abbrev S1x256 : Shape := ⟨2, ![1, 256]⟩
abbrev S252x256 : Shape := ⟨2, ![252, 256]⟩
abbrev S1x96x256 : Shape := ⟨3, ![1, 96, 256]⟩
abbrev S1x1x256 : Shape := ⟨3, ![1, 1, 256]⟩
abbrev S96x1 : Shape := ⟨2, ![96, 1]⟩
abbrev S6x4x96x2048 : Shape := ⟨4, ![6, 4, 96, 2048]⟩
abbrev S6x2048x4x96 : Shape := ⟨4, ![6, 2048, 4, 96]⟩
abbrev S6x2048x4 : Shape := ⟨3, ![6, 2048, 4]⟩

abbrev nBuf : Space → Nat
  | .hbm => 40
  | .vmem => 20
  | .smem => 0
  | _ => 0

abbrev bufTy : (tb : Table) → Fin (tcTables nBuf tb) → BufTy
  | .hbm, ⟨0, _⟩ => ⟨S6x2048x4096, .bf16⟩
  | .hbm, ⟨1, _⟩ => ⟨S4096, .f32⟩
  | .hbm, ⟨2, _⟩ => ⟨S4096x384, .fp8e4m3⟩
  | .hbm, ⟨3, _⟩ => ⟨S384, .f32⟩
  | .hbm, ⟨4, _⟩ => ⟨S4096x384, .fp8e4m3⟩
  | .hbm, ⟨5, _⟩ => ⟨S384, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S48x1, .f32⟩
  | .hbm, ⟨18, _⟩ => ⟨S2048, .i32⟩
  | .hbm, ⟨19, _⟩ => ⟨S2048, .f32⟩
  | .hbm, ⟨20, _⟩ => ⟨S1x2048, .f32⟩
  | .hbm, ⟨21, _⟩ => ⟨S48x2048, .f32⟩
  | .hbm, ⟨22, _⟩ => ⟨S48x2048, .f32⟩
  | .hbm, ⟨23, _⟩ => ⟨S48x2048, .f32⟩
  | .hbm, ⟨24, _⟩ => ⟨S48x2048, .f32⟩
  | .hbm, ⟨25, _⟩ => ⟨S48x2048, .f32⟩
  | .hbm, ⟨26, _⟩ => ⟨S768, .f32⟩
  | .hbm, ⟨27, _⟩ => ⟨S768x1, .f32⟩
  | .hbm, ⟨28, _⟩ => ⟨S768x128, .f32⟩
  | .hbm, ⟨29, _⟩ => ⟨S1x4096, .f32⟩
  | .hbm, ⟨30, _⟩ => ⟨S6x384x2048, .fp8e4m3⟩
  | .hbm, ⟨31, _⟩ => ⟨S6x4x2048, .f32⟩
  | .hbm, ⟨32, _⟩ => ⟨S6x384x2048, .fp8e4m3⟩
  | .hbm, ⟨33, _⟩ => ⟨S6x4x2048, .f32⟩
  | .hbm, ⟨34, _⟩ => ⟨S6x4x96x2048, .fp8e4m3⟩
  | .hbm, ⟨35, _⟩ => ⟨S6x2048x4x96, .fp8e4m3⟩
  | .hbm, ⟨36, _⟩ => ⟨S6x2048x4, .f32⟩
  | .hbm, ⟨37, _⟩ => ⟨S6x4x96x2048, .fp8e4m3⟩
  | .hbm, ⟨38, _⟩ => ⟨S6x2048x4x96, .fp8e4m3⟩
  | .hbm, ⟨39, _⟩ => ⟨S6x2048x4, .f32⟩
  | .local _ .vmem, ⟨0, _⟩ => ⟨S1x256x4096, .bf16⟩
  | .local _ .vmem, ⟨1, _⟩ => ⟨S1x256x4096, .bf16⟩
  | .local _ .vmem, ⟨2, _⟩ => ⟨S1x4096, .f32⟩
  | .local _ .vmem, ⟨3, _⟩ => ⟨S4096x384, .fp8e4m3⟩
  | .local _ .vmem, ⟨4, _⟩ => ⟨S4096x384, .fp8e4m3⟩
  | .local _ .vmem, ⟨5, _⟩ => ⟨S768x128, .f32⟩
  | .local _ .vmem, ⟨6, _⟩ => ⟨S48x256, .f32⟩
  | .local _ .vmem, ⟨7, _⟩ => ⟨S48x256, .f32⟩
  | .local _ .vmem, ⟨8, _⟩ => ⟨S48x256, .f32⟩
  | .local _ .vmem, ⟨9, _⟩ => ⟨S48x256, .f32⟩
  | .local _ .vmem, ⟨10, _⟩ => ⟨S1x384x256, .fp8e4m3⟩
  | .local _ .vmem, ⟨11, _⟩ => ⟨S1x384x256, .fp8e4m3⟩
  | .local _ .vmem, ⟨12, _⟩ => ⟨S1x4x256, .f32⟩
  | .local _ .vmem, ⟨13, _⟩ => ⟨S1x4x256, .f32⟩
  | .local _ .vmem, ⟨14, _⟩ => ⟨S1x384x256, .fp8e4m3⟩
  | .local _ .vmem, ⟨15, _⟩ => ⟨S1x384x256, .fp8e4m3⟩
  | .local _ .vmem, ⟨16, _⟩ => ⟨S1x4x256, .f32⟩
  | .local _ .vmem, ⟨17, _⟩ => ⟨S1x4x256, .f32⟩
  | .local _ .vmem, ⟨18, _⟩ => ⟨S768x4096, .bf16⟩
  | .local _ .vmem, ⟨19, _⟩ => ⟨S256x4096, .bf16⟩
  | _, _ => ⟨S6x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x384x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvRefIdeal.lean ====
abbrev S6x2048x4096 : Shape := ⟨3, ![6, 2048, 4096]⟩
abbrev S4096 : Shape := ⟨1, ![4096]⟩
abbrev S4096x384 : Shape := ⟨2, ![4096, 384]⟩
abbrev S384 : Shape := ⟨1, ![384]⟩
abbrev S48 : Shape := ⟨1, ![48]⟩
abbrev S_ : Shape := ⟨0, ![]⟩
abbrev S2048 : Shape := ⟨1, ![2048]⟩
abbrev S2048x1 : Shape := ⟨2, ![2048, 1]⟩
abbrev S1x48 : Shape := ⟨2, ![1, 48]⟩
abbrev S2048x48 : Shape := ⟨2, ![2048, 48]⟩
abbrev S252 : Shape := ⟨1, ![252]⟩
abbrev S1x4096 : Shape := ⟨2, ![1, 4096]⟩
abbrev S1x384 : Shape := ⟨2, ![1, 384]⟩
abbrev S1x252 : Shape := ⟨2, ![1, 252]⟩
abbrev S6x2048x4x96 : Shape := ⟨4, ![6, 2048, 4, 96]⟩
abbrev S6x2048x4 : Shape := ⟨3, ![6, 2048, 4]⟩
abbrev S6x2048 : Shape := ⟨2, ![6, 2048]⟩
abbrev S6x2048x1 : Shape := ⟨3, ![6, 2048, 1]⟩
abbrev S1x1x4096 : Shape := ⟨3, ![1, 1, 4096]⟩
abbrev S12288x4096 : Shape := ⟨2, ![12288, 4096]⟩
abbrev S1x2048x1x48 : Shape := ⟨4, ![1, 2048, 1, 48]⟩
abbrev S1x1x1x252 : Shape := ⟨4, ![1, 1, 1, 252]⟩
abbrev S12288x384 : Shape := ⟨2, ![12288, 384]⟩
abbrev S6x2048x4x48 : Shape := ⟨4, ![6, 2048, 4, 48]⟩
abbrev S6x2048x4x1 : Shape := ⟨4, ![6, 2048, 4, 1]⟩
abbrev S6x2048x4x252 : Shape := ⟨4, ![6, 2048, 4, 252]⟩

abbrev nBuf : Space → Nat
  | .hbm => 42
  | .vmem => 13
  | .smem => 0
  | _ => 0

abbrev bufTy : (tb : Table) → Fin (tcTables nBuf tb) → BufTy
  | .hbm, ⟨0, _⟩ => ⟨S6x2048x4096, .bf16⟩
  | .hbm, ⟨1, _⟩ => ⟨S4096, .f32⟩
  | .hbm, ⟨2, _⟩ => ⟨S4096x384, .fp8e4m3⟩
  | .hbm, ⟨3, _⟩ => ⟨S384, .f32⟩
  | .hbm, ⟨4, _⟩ => ⟨S4096x384, .fp8e4m3⟩
  | .hbm, ⟨5, _⟩ => ⟨S384, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S2048, .i32⟩
  | .hbm, ⟨18, _⟩ => ⟨S2048, .f32⟩
  | .hbm, ⟨19, _⟩ => ⟨S2048x1, .f32⟩
  | .hbm, ⟨20, _⟩ => ⟨S1x48, .f32⟩
  | .hbm, ⟨21, _⟩ => ⟨S2048x48, .f32⟩
  | .hbm, ⟨22, _⟩ => ⟨S2048x48, .f32⟩
  | .hbm, ⟨23, _⟩ => ⟨S2048x48, .f32⟩
  | .hbm, ⟨24, _⟩ => ⟨S252, .i32⟩
  | .hbm, ⟨25, _⟩ => ⟨S_, .i32⟩
  | .hbm, ⟨26, _⟩ => ⟨S252, .i32⟩
  | .hbm, ⟨27, _⟩ => ⟨S252, .i32⟩
  | .hbm, ⟨28, _⟩ => ⟨S252, .f32⟩
  | .hbm, ⟨29, _⟩ => ⟨S_, .f32⟩
  | .hbm, ⟨30, _⟩ => ⟨S252, .f32⟩
  | .hbm, ⟨31, _⟩ => ⟨S252, .f32⟩
  | .hbm, ⟨32, _⟩ => ⟨S1x4096, .f32⟩
  | .hbm, ⟨33, _⟩ => ⟨S1x384, .f32⟩
  | .hbm, ⟨34, _⟩ => ⟨S1x384, .f32⟩
  | .hbm, ⟨35, _⟩ => ⟨S2048x48, .f32⟩
  | .hbm, ⟨36, _⟩ => ⟨S2048x48, .f32⟩
  | .hbm, ⟨37, _⟩ => ⟨S1x252, .f32⟩
  | .hbm, ⟨38, _⟩ => ⟨S6x2048x4x96, .fp8e4m3⟩
  | .hbm, ⟨39, _⟩ => ⟨S6x2048x4, .f32⟩
  | .hbm, ⟨40, _⟩ => ⟨S6x2048x4x96, .fp8e4m3⟩
  | .hbm, ⟨41, _⟩ => ⟨S6x2048x4, .f32⟩
  | .local _ .vmem, ⟨0, _⟩ => ⟨S6x2048x4096, .bf16⟩
  | .local _ .vmem, ⟨1, _⟩ => ⟨S1x4096, .f32⟩
  | .local _ .vmem, ⟨2, _⟩ => ⟨S4096x384, .fp8e4m3⟩
  | .local _ .vmem, ⟨3, _⟩ => ⟨S1x384, .f32⟩
  | .local _ .vmem, ⟨4, _⟩ => ⟨S4096x384, .fp8e4m3⟩
  | .local _ .vmem, ⟨5, _⟩ => ⟨S1x384, .f32⟩
  | .local _ .vmem, ⟨6, _⟩ => ⟨S2048x48, .f32⟩
  | .local _ .vmem, ⟨7, _⟩ => ⟨S2048x48, .f32⟩
  | .local _ .vmem, ⟨8, _⟩ => ⟨S1x252, .f32⟩
  | .local _ .vmem, ⟨9, _⟩ => ⟨S6x2048x4x96, .fp8e4m3⟩
  | .local _ .vmem, ⟨10, _⟩ => ⟨S6x2048x4, .f32⟩
  | .local _ .vmem, ⟨11, _⟩ => ⟨S6x2048x4x96, .fp8e4m3⟩
  | .local _ .vmem, ⟨12, _⟩ => ⟨S6x2048x4, .f32⟩
  | _, _ => ⟨S6x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S6x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x252 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2048x4x96 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2048x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2048x4x96 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x2048x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Quantise.lean ====
/- The quantiser of one head of one token, over the extended reals: the kernel's (an exponent counted from
   powers of two, the scale and its inverse built from that exponent's bits) and the reference's (the least
   power of two above the largest absolute value over 448, and a division by it), as functions of the head's
   96 values. `Proof/QuantiseEq.lean` proves them equal. -/
module

public import Idealize.ShloMosaic.Lib.Pointwise

@[expose] public section

set_option maxRecDepth 16384

noncomputable section

namespace Cert.Kv

open Idealize.ShloMosaic

/-- The largest absolute value of a head. -/
def amax (v : Fin 96 → EReal) : EReal :=
  Finset.univ.fold max (Ideal.ofBits .f32 0xFF800000#32) fun i => FloatOps.absf (F := Ideal) (φ := .f32) (v i)

/-- How many of the 252 powers of two `2 ^ (k - 126)` are at most `u`, as the kernel counts them. -/
def pcount (u : EReal) : BitVec 32 :=
  Finset.univ.fold IntOp.addi 0#32 fun k : Fin 252 =>
    if Ideal.ofBits .f32 (IntOp.shli .vector (IntOp.addi (BitVec.ofNat 32 k) 1#32) 23#32) ≤ u then 1#32 else 0#32

/-- The exponent the kernel takes from the largest absolute value `a`. -/
def expo (a : EReal) : BitVec 32 :=
  if a = 0 then 0#32 else IntOp.subi (pcount (a * Ideal.ofBits .f32 0x3B124925#32)) 126#32

/-- The kernel's scale. -/
def kscale (a : EReal) : EReal :=
  Ideal.ofBits .f32 (IntOp.shli .vector (IntOp.addi (expo a) 127#32) 23#32)

/-- The kernel's inverse scale. -/
def kinv (a : EReal) : EReal :=
  Ideal.ofBits .f32 (IntOp.shli .vector (IntOp.subi 127#32 (expo a)) 23#32)

/-- The code of `x` at an inverse scale `q`. -/
def kcode (x q : EReal) : EReal :=
  min (Ideal.ofBits .f32 0x43E00000#32) (max (Ideal.ofBits .f32 0xC3E00000#32) (x * q))

/-- The reference's scale, from the largest absolute value and the table of powers of two. -/
def rscale (p : Fin 252 → EReal) (a : EReal) : EReal :=
  if a = 0 then 1
  else Finset.univ.fold min (Ideal.ofBits .f32 0x7F800000#32) fun k =>
    if a * Ideal.ofBits .f32 0x3B124925#32 < p k then p k else Ideal.ofBits .f32 0x7E800000#32

/-- The reference's code of `x` at a scale. -/
def rcode (x sc : EReal) : EReal :=
  min (Ideal.ofBits .f32 0x43E00000#32) (max (Ideal.ofBits .f32 0xC3E00000#32) (Ideal.div x sc))

/-- One head turned by the rotary angles: from the projected values `y` of all heads, the cosines, the sines. -/
def rope (y : Fin 384 → EReal) (c s : Fin 48 → EReal) (n : Fin 4) (i : Fin 96) : EReal :=
  if h : (i : ℕ) < 48 then
    y ⟨n * 96 + i, by omega⟩ * c ⟨i, h⟩ - y ⟨n * 96 + (48 + i), by omega⟩ * s ⟨i, h⟩
  else
    y ⟨n * 96 + (48 + (i - 48)), by omega⟩ * c ⟨i - 48, by omega⟩
      + y ⟨n * 96 + (i - 48), by omega⟩ * s ⟨i - 48, by omega⟩

/-- One entry of a token's normalised row, the mean taken by a multiplication with 1/4096. -/
def knorm (x g : Fin 4096 → EReal) (d : Fin 4096) : EReal :=
  x d * Ideal.rsqrt ((∑ l, x l * x l) * Ideal.ofBits .f32 0x39800000#32 + Ideal.ofBits .f32 0x358637BD#32) * g d

/-- One entry of a token's normalised row, the mean taken by a division by 4096. -/
def rnorm (x g : Fin 4096 → EReal) (d : Fin 4096) : EReal :=
  x d * Ideal.rsqrt (Ideal.div (∑ l, x l * x l) (Ideal.ofBits .f32 0x45800000#32) + Ideal.ofBits .f32 0x358637BD#32) * g d

/-- A token's projected value `r` of one side (keys or values): its normalised row against the weight's column, times the
    column's scale. -/
def proj (h : Fin 4096 → EReal) (w : Fin 4096 → Fin 384 → EReal) (s : Fin 384 → EReal) (r : Fin 384) : EReal :=
  (∑ l, w l r * h l) * s r

/-- The same value as the reference multiplies it. -/
def projR (h : Fin 4096 → EReal) (w : Fin 4096 → Fin 384 → EReal) (s : Fin 384 → EReal) (r : Fin 384) : EReal :=
  (∑ l, h l * w l r) * s r

/-- The rotary angle of the pair `k` at the position `p`. -/
def angle (k : Fin 48) (p : Fin 2048) : EReal :=
  Ideal.pow (Ideal.ofBits .f32 1223959552#32)
      (Ideal.div (-(Ideal.ofBits .f32 1073741824#32 * FloatOps.sitofp (F := Ideal) FTy.f32 (BitVec.ofNat 32 k)))
        (Ideal.ofBits .f32 1119879168#32))
    * FloatOps.sitofp (F := Ideal) FTy.f32 (BitVec.ofNat 32 p)

/-- The entry `k` of the reference's table of powers of two. -/
def power (k : Fin 252) : EReal :=
  Ideal.pow (Ideal.ofBits .f32 1073741824#32)
    (FloatOps.sitofp (F := Ideal) FTy.f32 (IntOp.addi 4294967170#32 (BitVec.ofNat 32 k)))

end Cert.Kv
-- ==== Proof.Heads.lean ====
/- What the kernel's payloads are, read at an index: the eight quantised heads of a block (four of K, four of V)
   as the quantiser of `Proof/Quantise.lean` at that head's 96 values. The printed payloads cut the quantiser at
   different places in different heads; each is the one vector-level quantiser `scaleV` / `codesV` here. -/
module

public import proofs.«01_k».proof.Proof.Quantise
public import proofs.«01_k».proof.Proof.Gen.KvIdeal.Skeleton

@[expose] public section

set_option maxRecDepth 16384

noncomputable section

namespace Cert.KvIdeal

open Idealize.ShloMosaic Idealize.SL.Sem Gen Cert.Kv

/-- The exponents of a head's 256 tokens, as the kernel's first head prints them. -/
def expoV (T : FVec Ideal S96x256 .f32) : IVec S1x256 32 :=
  have a : FVec Ideal S1x256 .f32 := shapeCast S1x256 (multiReduction .maximumf [0] S256 (absf T) 0xFF800000#32 reduces_S96x256_S256 (.inl rfl) rfl) shapeCasts_S256_S1x256
  have u : FVec Ideal S1x256 .f32 := mulf a (broadcast S1x256 (Scalar.ofBits (F := Ideal) .f32 0x3B124925#32))
  have p : FVec Ideal S252x256 .f32 := bitcastToFloat .f32 (shli (addi (iota .tc S252x256 32 [0] iota_S252x256_d0_w32) (broadcast S252x256 1#32)) (broadcast S252x256 23#32))
  have n : IVec S256 32 := multiReductionI .add [0] S256 (select (cmpf .oge (broadcastTo S252x256 u broadcasts_S1x256_S252x256) p) (broadcast S252x256 1#32) (broadcast S252x256 0#32)) 0#32 reduces_S252x256_S256 rfl
  select (cmpf .oeq a (broadcast S1x256 (Scalar.ofBits (F := Ideal) .f32 0x00000000#32))) (broadcast S1x256 0#32)
    (subi (shapeCast S1x256 n shapeCasts_S256_S1x256) (broadcast S1x256 126#32))

/-- The stored scales of a head, from its exponents. -/
def scaleV (e : IVec S1x256 32) : FVec Ideal S1x1x256 .f32 :=
  shapeCast S1x1x256 (bitcastToFloat (F := Ideal) .f32 (shli (addi e (broadcast S1x256 127#32)) (broadcast S1x256 23#32)) : FVec Ideal S1x256 .f32) shapeCasts_S1x256_S1x1x256

/-- The stored codes of a head, from its values and exponents. -/
def codesV (T : FVec Ideal S96x256 .f32) (e : IVec S1x256 32) : FVec Ideal S1x96x256 .fp8e4m3 :=
  k0_pay55 T (subi (broadcast S1x256 127#32) e)

theorem expoV_at (T : FVec Ideal S96x256 .f32) (t : Fin 256) : expoV T (ix2 0 t) = expo (amax fun i => T (ix2 i t)) := by
  pointwise [expoV, expo, amax, pcount]

theorem scaleV_at (e : IVec S1x256 32) (t : Fin 256) :
    scaleV e (ix3 0 0 t) = Ideal.ofBits .f32 (IntOp.shli .vector (IntOp.addi (e (ix2 0 t)) 127#32) 23#32) := by
  pointwise [scaleV]

theorem codesV_at (T : FVec Ideal S96x256 .f32) (e : IVec S1x256 32) (i : Fin 96) (t : Fin 256) :
    codesV T e (ix3 0 i t) = kcode (T (ix2 i t)) (Ideal.ofBits .f32 (IntOp.shli .vector (IntOp.subi 127#32 (e (ix2 0 t))) 23#32)) := by
  pointwise [codesV, k0_pay55, kcode]

section
variable (a b c x y : FVec Ideal S48x256 .f32) (Y : FVec Ideal S768x256 .f32) (s : FVec Ideal S96x1 .f32)

theorem scaleK0 : k0_pay56 (F := Ideal) (k0_pay53 a b c x y) = scaleV (expoV (k0_pay51 a b c x y)) := rfl
theorem codesK0 : k0_pay55 (F := Ideal) (k0_pay51 a b c x y) (k0_pay54 a b c x y) = codesV (k0_pay51 a b c x y) (expoV (k0_pay51 a b c x y)) := rfl
theorem scaleK1 : k0_pay71 (F := Ideal) (k0_pay67 a b x y) = scaleV (expoV (k0_pay65 a b x y)) := rfl
theorem codesK1 : k0_pay70 (F := Ideal) (k0_pay65 a b x y) (k0_pay68 a b x y) k0_pay69 = codesV (k0_pay65 a b x y) (expoV (k0_pay65 a b x y)) := rfl
theorem scaleK2 : k0_pay85 (F := Ideal) (k0_pay82 a b x y) = scaleV (expoV (k0_pay80 a b x y)) := rfl
theorem codesK2 : k0_pay84 (F := Ideal) (k0_pay80 a b x y) (k0_pay83 a b x y) = codesV (k0_pay80 a b x y) (expoV (k0_pay80 a b x y)) := rfl
theorem scaleK3 : k0_pay101 (F := Ideal) (k0_pay98 a b x y) = scaleV (expoV (k0_pay96 a b x y)) := rfl
theorem codesK3 : k0_pay100 (F := Ideal) (k0_pay99 a b x y) = codesV (k0_pay96 a b x y) (expoV (k0_pay96 a b x y)) := rfl
theorem scaleV0 : k0_pay62 (F := Ideal) (k0_pay58 Y s) (k0_pay59 Y s) 126#32 = scaleV (expoV (k0_pay57 Y s)) := rfl
theorem codesV0 : k0_pay61 (F := Ideal) (k0_pay57 Y s) (k0_pay58 Y s) (k0_pay59 Y s) 126#32 = codesV (k0_pay57 Y s) (expoV (k0_pay57 Y s)) := rfl
theorem scaleV1 : k0_pay77 (F := Ideal) (k0_pay73 Y s) (k0_pay74 Y s) = scaleV (expoV (k0_pay72 Y s)) := rfl
theorem codesV1 : k0_pay76 (F := Ideal) (k0_pay72 Y s) (k0_pay73 Y s) (k0_pay74 Y s) = codesV (k0_pay72 Y s) (expoV (k0_pay72 Y s)) := rfl
theorem scaleV2 : k0_pay92 (F := Ideal) (k0_pay87 Y s) (k0_pay88 Y s) k0_pay89 = scaleV (expoV (k0_pay86 Y s)) := rfl
theorem codesV2 : k0_pay91 (F := Ideal) (k0_pay86 Y s) (k0_pay87 Y s) (k0_pay88 Y s) k0_pay89 = codesV (k0_pay86 Y s) (expoV (k0_pay86 Y s)) := rfl
theorem scaleV3 : k0_pay3 (F := Ideal) (k0_pay104 Y s) (k0_pay105 Y s) 0#32 = scaleV (expoV (k0_pay102 Y s)) := rfl
theorem codesV3 : k0_pay2 (F := Ideal) (k0_pay102 Y s) (k0_pay104 Y s) (k0_pay105 Y s) 0#32 = codesV (k0_pay102 Y s) (expoV (k0_pay102 Y s)) := rfl
end

end Cert.KvIdeal
-- ==== Proof.Outputs.lean ====
/- What the kernel writes for a block of 256 tokens: the pieces of its four output blocks, for any stacked weights, any
   normalised rows and any scales and angles. -/
module

public import proofs.«01_k».proof.Proof.Heads
public import Idealize.ShloMosaic.Lib.Pipeline.ValueKit

@[expose] public section

set_option maxRecDepth 16384

noncomputable section

namespace Cert.KvIdeal

open Idealize.ShloMosaic Idealize.SL.Sem Gen Cert.Kv

variable (W : S768x4096.Idx → Elt Ideal .bf16) (H : S256x4096.Idx → Elt Ideal .bf16) (sb : S768x128.Idx → Elt Ideal .f32)
  (cb nb : S48x256.Idx → Elt Ideal .f32)

/-- The projected values of one token: row `r` of the stacked weights against the token's normalised row, times the
    row's scale. -/
def yv (t : Fin 256) (r : Fin 768) : EReal :=
  (∑ l : Fin 4096, W (ix2 r l) * H (ix2 t l)) * sb (ix2 r 0)

/-- The values of a token's key heads, turned by its angles. -/
def kvals (t : Fin 256) (n : Fin 4) (i : Fin 96) : EReal :=
  rope (fun r => yv W H sb t ⟨r, by omega⟩) (fun k => cb (ix2 k t)) (fun k => nb (ix2 k t)) n i

/-- The values of a token's value heads. -/
def vvals (t : Fin 256) (n : Fin 4) (i : Fin 96) : EReal :=
  yv W H sb t ⟨384 + n * 96 + i, by omega⟩

/-- The codes of the heads `v`, as a block. -/
def codesOf (v : Fin 256 → Fin 4 → Fin 96 → EReal) (y : S1x384x256.Idx) : EReal :=
  kcode (v (y 2) ⟨(y 1 : ℕ) / 96, by have := (y 1).isLt; simp at this; omega⟩ ⟨(y 1 : ℕ) % 96, Nat.mod_lt _ (by norm_num)⟩)
    (kinv (amax (v (y 2) ⟨(y 1 : ℕ) / 96, by have := (y 1).isLt; simp at this; omega⟩)))

/-- The scales of the heads `v`, as a block. -/
def scalesOf (v : Fin 256 → Fin 4 → Fin 96 → EReal) (y : S1x4x256.Idx) : EReal :=
  kscale (amax (v (y 2) (y 1)))

theorem codesOf_at (v : Fin 256 → Fin 4 → Fin 96 → EReal) {y : S1x384x256.Idx} (n : Fin 4) {i : Fin 96} {t : Fin 256}
    (h1 : (y 1 : ℕ) = 96 * n + i) (h2 : (y 2 : ℕ) = t) : codesOf v y = kcode (v t n i) (kinv (amax (v t n))) := by
  obtain rfl : y 2 = t := Fin.ext h2
  have e1 : (⟨(y 1 : ℕ) / 96, by have := (y 1).isLt; simp at this; omega⟩ : Fin 4) = n := Fin.ext (by simp only; omega)
  have e2 : (⟨(y 1 : ℕ) % 96, Nat.mod_lt _ (by norm_num)⟩ : Fin 96) = i := Fin.ext (by simp only; omega)
  rw [codesOf, e1, e2]

theorem scalesOf_at (v : Fin 256 → Fin 4 → Fin 96 → EReal) {y : S1x4x256.Idx} (n : Fin 4) {t : Fin 256}
    (h1 : (y 1 : ℕ) = n) (h2 : (y 2 : ℕ) = t) : scalesOf v y = kscale (amax (v t n)) := by
  obtain rfl : y 2 = t := Fin.ext h2
  obtain rfl : y 1 = n := Fin.ext h1
  rfl

theorem headK0_at (t : Fin 256) (i : Fin 96) :
    k0_pay51 (F := Ideal) (k0_pay48 W H (View.ld sb (Rect.unit ![0, 0] ![48, 1] inb_S768x128_S48x1_0_0))) (k0_pay49 W H) (k0_pay50 (View.ld sb (Rect.unit ![48, 0] ![48, 1] inb_S768x128_S48x1_48_0))) cb nb (ix2 i t) = kvals W H sb cb nb t 0 i := by
  pointwise [k0_pay51, k0_pay48, k0_pay49, k0_pay50, k0_pay47, kvals, rope, yv]

theorem headK1_at (t : Fin 256) (i : Fin 96) :
    k0_pay65 (F := Ideal) (k0_pay63 (k0_pay47 W H) (View.ld sb (Rect.unit ![96, 0] ![48, 1] inb_S768x128_S48x1_96_0))) (k0_pay64 (k0_pay47 W H) (View.ld sb (Rect.unit ![144, 0] ![48, 1] inb_S768x128_S48x1_144_0))) cb nb (ix2 i t) = kvals W H sb cb nb t 1 i := by
  pointwise [k0_pay65, k0_pay63, k0_pay64, k0_pay47, kvals, rope, yv]
  split <;> first | rfl | simp only [← Nat.add_assoc, Nat.reduceAdd]

theorem headK2_at (t : Fin 256) (i : Fin 96) :
    k0_pay80 (F := Ideal) (k0_pay78 (k0_pay47 W H) (View.ld sb (Rect.unit ![192, 0] ![48, 1] inb_S768x128_S48x1_192_0))) (k0_pay79 (k0_pay47 W H) (View.ld sb (Rect.unit ![240, 0] ![48, 1] inb_S768x128_S48x1_240_0))) cb nb (ix2 i t) = kvals W H sb cb nb t 2 i := by
  pointwise [k0_pay80, k0_pay78, k0_pay79, k0_pay47, kvals, rope, yv]
  split <;> first | rfl | simp only [← Nat.add_assoc, Nat.reduceAdd]

theorem headK3_at (t : Fin 256) (i : Fin 96) :
    k0_pay96 (F := Ideal) (k0_pay93 (k0_pay47 W H) (View.ld sb (Rect.unit ![288, 0] ![48, 1] inb_S768x128_S48x1_288_0))) (k0_pay94 (k0_pay47 W H) (View.ld sb (Rect.unit ![336, 0] ![48, 1] inb_S768x128_S48x1_336_0))) (k0_pay95 cb) nb (ix2 i t) = kvals W H sb cb nb t 3 i := by
  pointwise [k0_pay96, k0_pay93, k0_pay94, k0_pay95, k0_pay47, kvals, rope, yv]
  split <;> first | rfl | simp only [← Nat.add_assoc, Nat.reduceAdd]

theorem headV0_at (t : Fin 256) (i : Fin 96) :
    k0_pay57 (F := Ideal) (k0_pay47 W H) (View.ld sb (Rect.unit ![384, 0] ![96, 1] inb_S768x128_S96x1_384_0)) (ix2 i t) = vvals W H sb t 0 i := by
  pointwise [k0_pay57, k0_pay47, vvals, yv]
  blk_ext

theorem headV1_at (t : Fin 256) (i : Fin 96) :
    k0_pay72 (F := Ideal) (k0_pay47 W H) (View.ld sb (Rect.unit ![480, 0] ![96, 1] inb_S768x128_S96x1_480_0)) (ix2 i t) = vvals W H sb t 1 i := by
  pointwise [k0_pay72, k0_pay47, vvals, yv]
  blk_ext

theorem headV2_at (t : Fin 256) (i : Fin 96) :
    k0_pay86 (F := Ideal) (k0_pay47 W H) (View.ld sb (Rect.unit ![576, 0] ![96, 1] inb_S768x128_S96x1_576_0)) (ix2 i t) = vvals W H sb t 2 i := by
  pointwise [k0_pay86, k0_pay47, vvals, yv]
  blk_ext

theorem headV3_at (t : Fin 256) (i : Fin 96) :
    k0_pay102 (F := Ideal) (k0_pay47 W H) (View.ld sb (Rect.unit ![672, 0] ![96, 1] inb_S768x128_S96x1_672_0)) (ix2 i t) = vvals W H sb t 3 i := by
  pointwise [k0_pay102, k0_pay47, vvals, yv]
  blk_ext

/-- The four stores of key codes, the last one first. -/
def codePiecesK : List (View.Piece (Elt Ideal) S1x384x256 .fp8e4m3) :=
  [⟨Rect.unit ![0, 288, 0] ![1, 96, 256] inb_S1x384x256_S1x96x256_0_288_0,
      k0_pay100 (F := Ideal) (k0_pay99 (k0_pay93 (k0_pay47 W H) (View.ld sb (Rect.unit ![288, 0] ![48, 1] inb_S768x128_S48x1_288_0))) (k0_pay94 (k0_pay47 W H) (View.ld sb (Rect.unit ![336, 0] ![48, 1] inb_S768x128_S48x1_336_0))) (k0_pay95 cb) nb)⟩,
    ⟨Rect.unit ![0, 192, 0] ![1, 96, 256] inb_S1x384x256_S1x96x256_0_192_0,
      k0_pay84 (F := Ideal) (k0_pay80 (k0_pay78 (k0_pay47 W H) (View.ld sb (Rect.unit ![192, 0] ![48, 1] inb_S768x128_S48x1_192_0))) (k0_pay79 (k0_pay47 W H) (View.ld sb (Rect.unit ![240, 0] ![48, 1] inb_S768x128_S48x1_240_0))) cb nb) (k0_pay83 (k0_pay78 (k0_pay47 W H) (View.ld sb (Rect.unit ![192, 0] ![48, 1] inb_S768x128_S48x1_192_0))) (k0_pay79 (k0_pay47 W H) (View.ld sb (Rect.unit ![240, 0] ![48, 1] inb_S768x128_S48x1_240_0))) cb nb)⟩,
    ⟨Rect.unit ![0, 96, 0] ![1, 96, 256] inb_S1x384x256_S1x96x256_0_96_0,
      k0_pay70 (F := Ideal) (k0_pay65 (k0_pay63 (k0_pay47 W H) (View.ld sb (Rect.unit ![96, 0] ![48, 1] inb_S768x128_S48x1_96_0))) (k0_pay64 (k0_pay47 W H) (View.ld sb (Rect.unit ![144, 0] ![48, 1] inb_S768x128_S48x1_144_0))) cb nb) (k0_pay68 (k0_pay63 (k0_pay47 W H) (View.ld sb (Rect.unit ![96, 0] ![48, 1] inb_S768x128_S48x1_96_0))) (k0_pay64 (k0_pay47 W H) (View.ld sb (Rect.unit ![144, 0] ![48, 1] inb_S768x128_S48x1_144_0))) cb nb) k0_pay69⟩,
    ⟨Rect.unit ![0, 0, 0] ![1, 96, 256] inb_S1x384x256_S1x96x256_0_0_0,
      k0_pay55 (F := Ideal) (k0_pay51 (k0_pay48 W H (View.ld sb (Rect.unit ![0, 0] ![48, 1] inb_S768x128_S48x1_0_0))) (k0_pay49 W H) (k0_pay50 (View.ld sb (Rect.unit ![48, 0] ![48, 1] inb_S768x128_S48x1_48_0))) cb nb) (k0_pay54 (k0_pay48 W H (View.ld sb (Rect.unit ![0, 0] ![48, 1] inb_S768x128_S48x1_0_0))) (k0_pay49 W H) (k0_pay50 (View.ld sb (Rect.unit ![48, 0] ![48, 1] inb_S768x128_S48x1_48_0))) cb nb)⟩]

/-- The four stores of key scales, the last one first. -/
def scalePiecesK : List (View.Piece (Elt Ideal) S1x4x256 .f32) :=
  [⟨Rect.unit ![0, 3, 0] ![1, 1, 256] inb_S1x4x256_S1x1x256_0_3_0,
      k0_pay101 (F := Ideal) (k0_pay98 (k0_pay93 (k0_pay47 W H) (View.ld sb (Rect.unit ![288, 0] ![48, 1] inb_S768x128_S48x1_288_0))) (k0_pay94 (k0_pay47 W H) (View.ld sb (Rect.unit ![336, 0] ![48, 1] inb_S768x128_S48x1_336_0))) (k0_pay95 cb) nb)⟩,
    ⟨Rect.unit ![0, 2, 0] ![1, 1, 256] inb_S1x4x256_S1x1x256_0_2_0,
      k0_pay85 (F := Ideal) (k0_pay82 (k0_pay78 (k0_pay47 W H) (View.ld sb (Rect.unit ![192, 0] ![48, 1] inb_S768x128_S48x1_192_0))) (k0_pay79 (k0_pay47 W H) (View.ld sb (Rect.unit ![240, 0] ![48, 1] inb_S768x128_S48x1_240_0))) cb nb)⟩,
    ⟨Rect.unit ![0, 1, 0] ![1, 1, 256] inb_S1x4x256_S1x1x256_0_1_0,
      k0_pay71 (F := Ideal) (k0_pay67 (k0_pay63 (k0_pay47 W H) (View.ld sb (Rect.unit ![96, 0] ![48, 1] inb_S768x128_S48x1_96_0))) (k0_pay64 (k0_pay47 W H) (View.ld sb (Rect.unit ![144, 0] ![48, 1] inb_S768x128_S48x1_144_0))) cb nb)⟩,
    ⟨Rect.unit ![0, 0, 0] ![1, 1, 256] inb_S1x4x256_S1x1x256_0_0_0,
      k0_pay56 (F := Ideal) (k0_pay53 (k0_pay48 W H (View.ld sb (Rect.unit ![0, 0] ![48, 1] inb_S768x128_S48x1_0_0))) (k0_pay49 W H) (k0_pay50 (View.ld sb (Rect.unit ![48, 0] ![48, 1] inb_S768x128_S48x1_48_0))) cb nb)⟩]

theorem codePiecesK_eq (y : S1x384x256.Idx) :
    View.canon (codePiecesK W H sb cb nb) y = codesOf (kvals W H sb cb nb) y := by
  unfold codePiecesK
  canon_tiles x h
  case piece0 =>
    idx_vars x
    obtain rfl := Subsingleton.elim x0 0
    rw [codesOf_at _ (n := 3) (i := x1) (t := x2) (h1.trans (by simp)) h2, codesK3, codesV_at, expoV_at]
    simp only [headK3_at]
    rfl
  case piece1 =>
    idx_vars x
    obtain rfl := Subsingleton.elim x0 0
    rw [codesOf_at _ (n := 2) (i := x1) (t := x2) (h1.trans (by simp)) h2, codesK2, codesV_at, expoV_at]
    simp only [headK2_at]
    rfl
  case piece2 =>
    idx_vars x
    obtain rfl := Subsingleton.elim x0 0
    rw [codesOf_at _ (n := 1) (i := x1) (t := x2) (h1.trans (by simp)) h2, codesK1, codesV_at, expoV_at]
    simp only [headK1_at]
    rfl
  case piece3 =>
    idx_vars x
    obtain rfl := Subsingleton.elim x0 0
    rw [codesOf_at _ (n := 0) (i := x1) (t := x2) (h1.trans (by simp)) h2, codesK0, codesV_at, expoV_at]
    simp only [headK0_at]
    rfl

theorem scalePiecesK_eq (y : S1x4x256.Idx) :
    View.canon (scalePiecesK W H sb cb nb) y = scalesOf (kvals W H sb cb nb) y := by
  unfold scalePiecesK
  canon_tiles x h
  case piece0 =>
    idx_vars x
    obtain rfl := Subsingleton.elim x0 0
    obtain rfl := Subsingleton.elim x1 0
    rw [scalesOf_at _ (n := 3) (t := x2) (h1.trans (by simp)) h2, scaleK3, scaleV_at, expoV_at]
    simp only [headK3_at]
    rfl
  case piece1 =>
    idx_vars x
    obtain rfl := Subsingleton.elim x0 0
    obtain rfl := Subsingleton.elim x1 0
    rw [scalesOf_at _ (n := 2) (t := x2) (h1.trans (by simp)) h2, scaleK2, scaleV_at, expoV_at]
    simp only [headK2_at]
    rfl
  case piece2 =>
    idx_vars x
    obtain rfl := Subsingleton.elim x0 0
    obtain rfl := Subsingleton.elim x1 0
    rw [scalesOf_at _ (n := 1) (t := x2) (h1.trans (by simp)) h2, scaleK1, scaleV_at, expoV_at]
    simp only [headK1_at]
    rfl
  case piece3 =>
    idx_vars x
    obtain rfl := Subsingleton.elim x0 0
    obtain rfl := Subsingleton.elim x1 0
    rw [scalesOf_at _ (n := 0) (t := x2) (h1.trans (by simp)) h2, scaleK0, scaleV_at, expoV_at]
    simp only [headK0_at]
    rfl

/-- The four stores of value codes, the last one first. -/
def codePiecesV : List (View.Piece (Elt Ideal) S1x384x256 .fp8e4m3) :=
  [⟨Rect.unit ![0, 288, 0] ![1, 96, 256] inb_S1x384x256_S1x96x256_0_288_0,
      k0_pay2 (F := Ideal) (k0_pay102 (k0_pay47 W H) (View.ld sb (Rect.unit ![672, 0] ![96, 1] inb_S768x128_S96x1_672_0))) (k0_pay104 (k0_pay47 W H) (View.ld sb (Rect.unit ![672, 0] ![96, 1] inb_S768x128_S96x1_672_0))) (k0_pay105 (k0_pay47 W H) (View.ld sb (Rect.unit ![672, 0] ![96, 1] inb_S768x128_S96x1_672_0))) 0#32⟩,
    ⟨Rect.unit ![0, 192, 0] ![1, 96, 256] inb_S1x384x256_S1x96x256_0_192_0,
      k0_pay91 (F := Ideal) (k0_pay86 (k0_pay47 W H) (View.ld sb (Rect.unit ![576, 0] ![96, 1] inb_S768x128_S96x1_576_0))) (k0_pay87 (k0_pay47 W H) (View.ld sb (Rect.unit ![576, 0] ![96, 1] inb_S768x128_S96x1_576_0))) (k0_pay88 (k0_pay47 W H) (View.ld sb (Rect.unit ![576, 0] ![96, 1] inb_S768x128_S96x1_576_0))) k0_pay89⟩,
    ⟨Rect.unit ![0, 96, 0] ![1, 96, 256] inb_S1x384x256_S1x96x256_0_96_0,
      k0_pay76 (F := Ideal) (k0_pay72 (k0_pay47 W H) (View.ld sb (Rect.unit ![480, 0] ![96, 1] inb_S768x128_S96x1_480_0))) (k0_pay73 (k0_pay47 W H) (View.ld sb (Rect.unit ![480, 0] ![96, 1] inb_S768x128_S96x1_480_0))) (k0_pay74 (k0_pay47 W H) (View.ld sb (Rect.unit ![480, 0] ![96, 1] inb_S768x128_S96x1_480_0)))⟩,
    ⟨Rect.unit ![0, 0, 0] ![1, 96, 256] inb_S1x384x256_S1x96x256_0_0_0,
      k0_pay61 (F := Ideal) (k0_pay57 (k0_pay47 W H) (View.ld sb (Rect.unit ![384, 0] ![96, 1] inb_S768x128_S96x1_384_0))) (k0_pay58 (k0_pay47 W H) (View.ld sb (Rect.unit ![384, 0] ![96, 1] inb_S768x128_S96x1_384_0))) (k0_pay59 (k0_pay47 W H) (View.ld sb (Rect.unit ![384, 0] ![96, 1] inb_S768x128_S96x1_384_0))) 126#32⟩]

/-- The four stores of value scales, the last one first. -/
def scalePiecesV : List (View.Piece (Elt Ideal) S1x4x256 .f32) :=
  [⟨Rect.unit ![0, 3, 0] ![1, 1, 256] inb_S1x4x256_S1x1x256_0_3_0,
      k0_pay3 (F := Ideal) (k0_pay104 (k0_pay47 W H) (View.ld sb (Rect.unit ![672, 0] ![96, 1] inb_S768x128_S96x1_672_0))) (k0_pay105 (k0_pay47 W H) (View.ld sb (Rect.unit ![672, 0] ![96, 1] inb_S768x128_S96x1_672_0))) 0#32⟩,
    ⟨Rect.unit ![0, 2, 0] ![1, 1, 256] inb_S1x4x256_S1x1x256_0_2_0,
      k0_pay92 (F := Ideal) (k0_pay87 (k0_pay47 W H) (View.ld sb (Rect.unit ![576, 0] ![96, 1] inb_S768x128_S96x1_576_0))) (k0_pay88 (k0_pay47 W H) (View.ld sb (Rect.unit ![576, 0] ![96, 1] inb_S768x128_S96x1_576_0))) k0_pay89⟩,
    ⟨Rect.unit ![0, 1, 0] ![1, 1, 256] inb_S1x4x256_S1x1x256_0_1_0,
      k0_pay77 (F := Ideal) (k0_pay73 (k0_pay47 W H) (View.ld sb (Rect.unit ![480, 0] ![96, 1] inb_S768x128_S96x1_480_0))) (k0_pay74 (k0_pay47 W H) (View.ld sb (Rect.unit ![480, 0] ![96, 1] inb_S768x128_S96x1_480_0)))⟩,
    ⟨Rect.unit ![0, 0, 0] ![1, 1, 256] inb_S1x4x256_S1x1x256_0_0_0,
      k0_pay62 (F := Ideal) (k0_pay58 (k0_pay47 W H) (View.ld sb (Rect.unit ![384, 0] ![96, 1] inb_S768x128_S96x1_384_0))) (k0_pay59 (k0_pay47 W H) (View.ld sb (Rect.unit ![384, 0] ![96, 1] inb_S768x128_S96x1_384_0))) 126#32⟩]

theorem codePiecesV_eq (y : S1x384x256.Idx) :
    View.canon (codePiecesV W H sb) y = codesOf (vvals W H sb) y := by
  unfold codePiecesV
  canon_tiles x h
  case piece0 =>
    idx_vars x
    obtain rfl := Subsingleton.elim x0 0
    rw [codesOf_at _ (n := 3) (i := x1) (t := x2) (h1.trans (by simp)) h2, codesV3, codesV_at, expoV_at]
    simp only [headV3_at]
    rfl
  case piece1 =>
    idx_vars x
    obtain rfl := Subsingleton.elim x0 0
    rw [codesOf_at _ (n := 2) (i := x1) (t := x2) (h1.trans (by simp)) h2, codesV2, codesV_at, expoV_at]
    simp only [headV2_at]
    rfl
  case piece2 =>
    idx_vars x
    obtain rfl := Subsingleton.elim x0 0
    rw [codesOf_at _ (n := 1) (i := x1) (t := x2) (h1.trans (by simp)) h2, codesV1, codesV_at, expoV_at]
    simp only [headV1_at]
    rfl
  case piece3 =>
    idx_vars x
    obtain rfl := Subsingleton.elim x0 0
    rw [codesOf_at _ (n := 0) (i := x1) (t := x2) (h1.trans (by simp)) h2, codesV0, codesV_at, expoV_at]
    simp only [headV0_at]
    rfl

theorem scalePiecesV_eq (y : S1x4x256.Idx) :
    View.canon (scalePiecesV W H sb) y = scalesOf (vvals W H sb) y := by
  unfold scalePiecesV
  canon_tiles x h
  case piece0 =>
    idx_vars x
    obtain rfl := Subsingleton.elim x0 0
    obtain rfl := Subsingleton.elim x1 0
    rw [scalesOf_at _ (n := 3) (t := x2) (h1.trans (by simp)) h2, scaleV3, scaleV_at, expoV_at]
    simp only [headV3_at]
    rfl
  case piece1 =>
    idx_vars x
    obtain rfl := Subsingleton.elim x0 0
    obtain rfl := Subsingleton.elim x1 0
    rw [scalesOf_at _ (n := 2) (t := x2) (h1.trans (by simp)) h2, scaleV2, scaleV_at, expoV_at]
    simp only [headV2_at]
    rfl
  case piece2 =>
    idx_vars x
    obtain rfl := Subsingleton.elim x0 0
    obtain rfl := Subsingleton.elim x1 0
    rw [scalesOf_at _ (n := 1) (t := x2) (h1.trans (by simp)) h2, scaleV1, scaleV_at, expoV_at]
    simp only [headV1_at]
    rfl
  case piece3 =>
    idx_vars x
    obtain rfl := Subsingleton.elim x0 0
    obtain rfl := Subsingleton.elim x1 0
    rw [scalesOf_at _ (n := 0) (t := x2) (h1.trans (by simp)) h2, scaleV0, scaleV_at, expoV_at]
    simp only [headV0_at]
    rfl

end Cert.KvIdeal
-- ==== Proof.Hidden.lean ====
/- The kernel normalises a block of 256 tokens sixteen rows at a time into a scratch; what the scratch holds. -/
module

public import proofs.«01_k».proof.Proof.Quantise
public import proofs.«01_k».proof.Proof.Gen.KvIdeal.Skeleton
public import Idealize.ShloMosaic.Lib.Pipeline.ValueKit

@[expose] public section

set_option maxRecDepth 16384

noncomputable section

namespace Cert.KvIdeal

open Idealize.ShloMosaic Idealize.SL.Sem Gen Cert.Kv

variable (xb : S1x256x4096.Idx → Elt Ideal .bf16) (gb : S1x4096.Idx → Elt Ideal .f32)

/-- The sixteen stores of normalised rows into the scratch, the last one first. -/
def hiddenPieces : List (View.Piece (Elt Ideal) S256x4096 .bf16) :=
  [⟨Rect.unit ![240, 0] ![16, 4096] inb_S256x4096_S16x4096_240_0,
      k0_pay46 (View.ld xb (Rect.unit ![0, 240, 0] ![1, 16, 4096] inb_S1x256x4096_S1x16x4096_0_240_0)) gb⟩,
    ⟨Rect.unit ![224, 0] ![16, 4096] inb_S256x4096_S16x4096_224_0,
      k0_pay45 (k0_pay44 (View.ld xb (Rect.unit ![0, 224, 0] ![1, 16, 4096] inb_S1x256x4096_S1x16x4096_0_224_0)) gb)⟩,
    ⟨Rect.unit ![208, 0] ![16, 4096] inb_S256x4096_S16x4096_208_0,
      k0_pay43 (View.ld xb (Rect.unit ![0, 208, 0] ![1, 16, 4096] inb_S1x256x4096_S1x16x4096_0_208_0)) gb⟩,
    ⟨Rect.unit ![192, 0] ![16, 4096] inb_S256x4096_S16x4096_192_0,
      k0_pay42 (k0_pay41 (View.ld xb (Rect.unit ![0, 192, 0] ![1, 16, 4096] inb_S1x256x4096_S1x16x4096_0_192_0)) gb)⟩,
    ⟨Rect.unit ![176, 0] ![16, 4096] inb_S256x4096_S16x4096_176_0,
      k0_pay40 (View.ld xb (Rect.unit ![0, 176, 0] ![1, 16, 4096] inb_S1x256x4096_S1x16x4096_0_176_0)) gb⟩,
    ⟨Rect.unit ![160, 0] ![16, 4096] inb_S256x4096_S16x4096_160_0,
      k0_pay39 (View.ld xb (Rect.unit ![0, 160, 0] ![1, 16, 4096] inb_S1x256x4096_S1x16x4096_0_160_0)) gb⟩,
    ⟨Rect.unit ![144, 0] ![16, 4096] inb_S256x4096_S16x4096_144_0,
      k0_pay38 (k0_pay37 (View.ld xb (Rect.unit ![0, 144, 0] ![1, 16, 4096] inb_S1x256x4096_S1x16x4096_0_144_0))) gb⟩,
    ⟨Rect.unit ![128, 0] ![16, 4096] inb_S256x4096_S16x4096_128_0,
      k0_pay36 (View.ld xb (Rect.unit ![0, 128, 0] ![1, 16, 4096] inb_S1x256x4096_S1x16x4096_0_128_0)) gb⟩,
    ⟨Rect.unit ![112, 0] ![16, 4096] inb_S256x4096_S16x4096_112_0,
      k0_pay35 (k0_pay33 (View.ld xb (Rect.unit ![0, 112, 0] ![1, 16, 4096] inb_S1x256x4096_S1x16x4096_0_112_0))) (k0_pay34 (View.ld xb (Rect.unit ![0, 112, 0] ![1, 16, 4096] inb_S1x256x4096_S1x16x4096_0_112_0))) gb⟩,
    ⟨Rect.unit ![96, 0] ![16, 4096] inb_S256x4096_S16x4096_96_0,
      k0_pay32 (View.ld xb (Rect.unit ![0, 96, 0] ![1, 16, 4096] inb_S1x256x4096_S1x16x4096_0_96_0)) gb⟩,
    ⟨Rect.unit ![80, 0] ![16, 4096] inb_S256x4096_S16x4096_80_0,
      k0_pay31 (k0_pay29 (View.ld xb (Rect.unit ![0, 80, 0] ![1, 16, 4096] inb_S1x256x4096_S1x16x4096_0_80_0))) (k0_pay30 (View.ld xb (Rect.unit ![0, 80, 0] ![1, 16, 4096] inb_S1x256x4096_S1x16x4096_0_80_0))) gb⟩,
    ⟨Rect.unit ![64, 0] ![16, 4096] inb_S256x4096_S16x4096_64_0,
      k0_pay28 (View.ld xb (Rect.unit ![0, 64, 0] ![1, 16, 4096] inb_S1x256x4096_S1x16x4096_0_64_0)) gb⟩,
    ⟨Rect.unit ![48, 0] ![16, 4096] inb_S256x4096_S16x4096_48_0,
      k0_pay27 (k0_pay25 (View.ld xb (Rect.unit ![0, 48, 0] ![1, 16, 4096] inb_S1x256x4096_S1x16x4096_0_48_0))) (k0_pay26 (View.ld xb (Rect.unit ![0, 48, 0] ![1, 16, 4096] inb_S1x256x4096_S1x16x4096_0_48_0))) gb⟩,
    ⟨Rect.unit ![32, 0] ![16, 4096] inb_S256x4096_S16x4096_32_0,
      k0_pay24 (View.ld xb (Rect.unit ![0, 32, 0] ![1, 16, 4096] inb_S1x256x4096_S1x16x4096_0_32_0)) gb⟩,
    ⟨Rect.unit ![16, 0] ![16, 4096] inb_S256x4096_S16x4096_16_0,
      k0_pay23 (k0_pay22 (View.ld xb (Rect.unit ![0, 16, 0] ![1, 16, 4096] inb_S1x256x4096_S1x16x4096_0_16_0))) gb⟩,
    ⟨Rect.unit ![0, 0] ![16, 4096] inb_S256x4096_S16x4096_0_0,
      k0_pay21 (View.ld xb (Rect.unit ![0, 0, 0] ![1, 16, 4096] inb_S1x256x4096_S1x16x4096_0_0_0)) gb⟩]

/-- The normalised rows of a block. -/
def hidden : S256x4096.Idx → EReal := fun y =>
  knorm (fun l => xb (ix3 0 (y 0) l)) (fun l => gb (ix2 0 l)) (y 1)

theorem hidden_at {y : S256x4096.Idx} {n : ℕ} {d : Fin 4096} (h0 : (y 0 : ℕ) = n) (h1 : (y 1 : ℕ) = d) :
    hidden xb gb y = knorm (fun l => xb (ix3 0 ⟨n, h0 ▸ (y 0).isLt⟩ l)) (fun l => gb (ix2 0 l)) d := by
  subst h0
  obtain rfl : y 1 = d := Fin.ext h1
  rfl

theorem hiddenPieces_eq (y : S256x4096.Idx) : View.canon (hiddenPieces xb gb) y = hidden xb gb y := by
  unfold hiddenPieces
  canon_tiles x h
  all_goals
    rw [hidden_at xb gb h0 h1]
    open_payloads
    pointwise [knorm]

end Cert.KvIdeal
-- ==== Proof.Blocks.lean ====
/- What one grid point of the kernel leaves in its staging buffers and in the scratch it carries. -/
module

public import proofs.«01_k».proof.Proof.Outputs
public import proofs.«01_k».proof.Proof.Hidden
public import proofs.«01_k».proof.Proof.Gen.KvIdeal.Frame
public import Idealize.ShloMosaic.Lib.Pipeline.ValueKit
public import Idealize.ShloMosaic.Lib.Pipeline.ReadBack

@[expose] public section

set_option maxRecDepth 16384

noncomputable section

namespace Cert.KvIdeal

open Idealize.ShloMosaic Idealize.SL.Sem Gen Cert.Kv

variable (m : (ℓ : Loc nD τ sig) → Buf (Elt Ideal) ℓ)

/-- The carried scratch: the K weights transposed, over the V weights transposed. -/
def wT (wk wv : FVec Ideal S4096x384 .fp8e4m3) : FVec Ideal S768x4096 .bf16 := fun j =>
  if h : (j 0 : ℕ) < 384 then wk (ix2 (j 1) ⟨j 0, h⟩) else wv (ix2 (j 1) ⟨j 0 - 384, by have := (j 0).isLt; simp at this; omega⟩)

theorem wT_lo (wk wv : FVec Ideal S4096x384 .fp8e4m3) {y : S768x4096.Idx} {n : Fin 384} {d : ℕ}
    (h0 : (y 0 : ℕ) = n) (h1 : (y 1 : ℕ) = d) : wT wk wv y = wk (ix2 ⟨d, h1 ▸ (y 1).isLt⟩ n) := by
  subst h1
  simp only [wT, h0, n.isLt, dite_true]
  rfl

theorem wT_hi (wk wv : FVec Ideal S4096x384 .fp8e4m3) {y : S768x4096.Idx} {n : Fin 384} {d : ℕ}
    (h0 : (y 0 : ℕ) = 384 + n) (h1 : (y 1 : ℕ) = d) : wT wk wv y = wv (ix2 ⟨d, h1 ▸ (y 1).isLt⟩ n) := by
  subst h1
  have : ¬ 384 + (n : ℕ) < 384 := by omega
  simp only [wT, h0, this, dite_false, Nat.add_sub_cancel_left]
  rfl

/-- The sixteen stores of weights into the carried scratch at the grid's first point, the last one first. -/
def weightPieces (wk wv : S4096x384.Idx → Elt Ideal .fp8e4m3) : List (View.Piece (Elt Ideal) S768x4096 .bf16) :=
  [⟨Rect.unit ![384, 3584] ![384, 512] inb_S768x4096_S384x512_384_3584,
      k0_pay20 (F := Ideal) (View.ld wv (Rect.unit ![3584, 0] ![512, 384] inb_S4096x384_S512x384_3584_0))⟩,
    ⟨Rect.unit ![0, 3584] ![384, 512] inb_S768x4096_S384x512_0_3584,
      k0_pay19 (F := Ideal) (View.ld wk (Rect.unit ![3584, 0] ![512, 384] inb_S4096x384_S512x384_3584_0))⟩,
    ⟨Rect.unit ![384, 3072] ![384, 512] inb_S768x4096_S384x512_384_3072,
      k0_pay18 (F := Ideal) (View.ld wv (Rect.unit ![3072, 0] ![512, 384] inb_S4096x384_S512x384_3072_0))⟩,
    ⟨Rect.unit ![0, 3072] ![384, 512] inb_S768x4096_S384x512_0_3072,
      k0_pay17 (F := Ideal) (View.ld wk (Rect.unit ![3072, 0] ![512, 384] inb_S4096x384_S512x384_3072_0))⟩,
    ⟨Rect.unit ![384, 2560] ![384, 512] inb_S768x4096_S384x512_384_2560,
      k0_pay16 (F := Ideal) (View.ld wv (Rect.unit ![2560, 0] ![512, 384] inb_S4096x384_S512x384_2560_0))⟩,
    ⟨Rect.unit ![0, 2560] ![384, 512] inb_S768x4096_S384x512_0_2560,
      k0_pay15 (F := Ideal) (View.ld wk (Rect.unit ![2560, 0] ![512, 384] inb_S4096x384_S512x384_2560_0))⟩,
    ⟨Rect.unit ![384, 2048] ![384, 512] inb_S768x4096_S384x512_384_2048,
      k0_pay14 (F := Ideal) (View.ld wv (Rect.unit ![2048, 0] ![512, 384] inb_S4096x384_S512x384_2048_0))⟩,
    ⟨Rect.unit ![0, 2048] ![384, 512] inb_S768x4096_S384x512_0_2048,
      k0_pay13 (F := Ideal) (View.ld wk (Rect.unit ![2048, 0] ![512, 384] inb_S4096x384_S512x384_2048_0))⟩,
    ⟨Rect.unit ![384, 1536] ![384, 512] inb_S768x4096_S384x512_384_1536,
      k0_pay12 (F := Ideal) (View.ld wv (Rect.unit ![1536, 0] ![512, 384] inb_S4096x384_S512x384_1536_0))⟩,
    ⟨Rect.unit ![0, 1536] ![384, 512] inb_S768x4096_S384x512_0_1536,
      k0_pay11 (F := Ideal) (View.ld wk (Rect.unit ![1536, 0] ![512, 384] inb_S4096x384_S512x384_1536_0))⟩,
    ⟨Rect.unit ![384, 1024] ![384, 512] inb_S768x4096_S384x512_384_1024,
      k0_pay10 (F := Ideal) (k0_pay9 (View.ld wv (Rect.unit ![1024, 0] ![512, 384] inb_S4096x384_S512x384_1024_0)))⟩,
    ⟨Rect.unit ![0, 1024] ![384, 512] inb_S768x4096_S384x512_0_1024,
      k0_pay8 (F := Ideal) (View.ld wk (Rect.unit ![1024, 0] ![512, 384] inb_S4096x384_S512x384_1024_0))⟩,
    ⟨Rect.unit ![384, 512] ![384, 512] inb_S768x4096_S384x512_384_512,
      k0_pay7 (F := Ideal) (View.ld wv (Rect.unit ![512, 0] ![512, 384] inb_S4096x384_S512x384_512_0))⟩,
    ⟨Rect.unit ![0, 512] ![384, 512] inb_S768x4096_S384x512_0_512,
      k0_pay6 (F := Ideal) (View.ld wk (Rect.unit ![512, 0] ![512, 384] inb_S4096x384_S512x384_512_0))⟩,
    ⟨Rect.unit ![384, 0] ![384, 512] inb_S768x4096_S384x512_384_0,
      k0_pay5 (F := Ideal) (View.ld wv (Rect.unit ![0, 0] ![512, 384] inb_S4096x384_S512x384_0_0))⟩,
    ⟨Rect.unit ![0, 0] ![384, 512] inb_S768x4096_S384x512_0_0,
      k0_pay4 (F := Ideal) (View.ld wk (Rect.unit ![0, 0] ![512, 384] inb_S4096x384_S512x384_0_0))⟩]

theorem weightPieces_eq (wk wv : S4096x384.Idx → Elt Ideal .fp8e4m3) (y : S768x4096.Idx) :
    View.canon (weightPieces wk wv) y = wT wk wv y := by
  unfold weightPieces
  canon_tiles x h
  all_goals
    first
    | rw [wT_lo _ _ h0 h1]
    | rw [wT_hi _ _ h0 h1]
    open_payloads
    pointwise

theorem whole_idx {R C : ℕ} (inb) (j : (⟨2, ![R, C]⟩ : Shape).Idx) :
    (Rect.unit (s := ⟨2, ![R, C]⟩) ![0, 0] ![R, C] inb).idx j = j := by
  funext a
  apply Fin.ext
  rw [Rect.idx_unit_val]
  fin_cases a <;> simp

theorem case_A_scratch (c : Dev nD) (t : Fin cfg0.N) (h : t.val % 48 = 0) :
    (outsAt0 m c t.val t.isLt).2.2.2.2 = wT (iblk m c 2 t) (iblk m c 3 t) := by
  rw [outsAt0_A m c t h]
  funext y
  frame_out
  exact weightPieces_eq (iblk m c 2 t) (iblk m c 3 t) y

theorem case_B_scratch (c : Dev nD) (t : Fin cfg0.N) (h : ¬ t.val % 48 = 0) :
    (outsAt0 m c t.val t.isLt).2.2.2.2 = (outsAt0 m c (t.val - 1) (by have := t.isLt; omega)).2.2.2.2 := by
  rw [outsAt0_B m c t h]
  rfl

theorem case_A_kc (c : Dev nD) (t : Fin cfg0.N) (h : t.val % 48 = 0) :
    (outsAt0 m c t.val t.isLt).1 =
      codesOf (kvals (wT (iblk m c 2 t) (iblk m c 3 t)) (hidden (iblk m c 0 t) (iblk m c 1 t)) (iblk m c 4 t) (iblk m c 5 t) (iblk m c 6 t)) := by
  rw [outsAt0_A m c t h]
  funext y
  frame_out
  generalize hH : View.readCov (Val := Elt Ideal) (View.whole cc0_scratch1) _ _ = H
  generalize hW : View.readCov (Val := Elt Ideal) (View.whole cc0_scratch0) _ _ = W
  have hH' : H = hidden (iblk m c 0 t) (iblk m c 1 t) := by
    rw [← hH, View.readCov_eq_canon']
    funext j
    exact (hiddenPieces_eq (iblk m c 0 t) (iblk m c 1 t) _).trans (congrArg _ (whole_idx _ j))
  have hW' : W = wT (iblk m c 2 t) (iblk m c 3 t) := by
    rw [← hW, View.readCov_eq_canon']
    funext j
    exact (weightPieces_eq (iblk m c 2 t) (iblk m c 3 t) _).trans (congrArg _ (whole_idx _ j))
  rw [← hH', ← hW']
  exact codePiecesK_eq W H (iblk m c 4 t) (iblk m c 5 t) (iblk m c 6 t) y

theorem case_B_kc (c : Dev nD) (t : Fin cfg0.N) (h : ¬ t.val % 48 = 0) :
    (outsAt0 m c t.val t.isLt).1 =
      codesOf (kvals (outsAt0 m c (t.val - 1) (by have := t.isLt; omega)).2.2.2.2 (hidden (iblk m c 0 t) (iblk m c 1 t)) (iblk m c 4 t) (iblk m c 5 t) (iblk m c 6 t)) := by
  rw [outsAt0_B m c t h]
  funext y
  frame_out
  generalize hH : View.readCov (Val := Elt Ideal) (View.whole cc0_scratch1) _ _ = H
  have hH' : H = hidden (iblk m c 0 t) (iblk m c 1 t) := by
    rw [← hH, View.readCov_eq_canon']
    funext j
    exact (hiddenPieces_eq (iblk m c 0 t) (iblk m c 1 t) _).trans (congrArg _ (whole_idx _ j))
  generalize hW : View.read (Elt Ideal) (View.whole cc0_scratch0) _ = W
  have hW' : W = (outsAt0 m c (t.val - 1) (by have := t.isLt; omega)).2.2.2.2 := by
    rw [← hW]
    exact read_unread_whole _ _ _
  rw [← hH', ← hW']
  exact codePiecesK_eq W H (iblk m c 4 t) (iblk m c 5 t) (iblk m c 6 t) y

theorem case_A_ks (c : Dev nD) (t : Fin cfg0.N) (h : t.val % 48 = 0) :
    (outsAt0 m c t.val t.isLt).2.1 =
      scalesOf (kvals (wT (iblk m c 2 t) (iblk m c 3 t)) (hidden (iblk m c 0 t) (iblk m c 1 t)) (iblk m c 4 t) (iblk m c 5 t) (iblk m c 6 t)) := by
  rw [outsAt0_A m c t h]
  funext y
  frame_out
  generalize hH : View.readCov (Val := Elt Ideal) (View.whole cc0_scratch1) _ _ = H
  generalize hW : View.readCov (Val := Elt Ideal) (View.whole cc0_scratch0) _ _ = W
  have hH' : H = hidden (iblk m c 0 t) (iblk m c 1 t) := by
    rw [← hH, View.readCov_eq_canon']
    funext j
    exact (hiddenPieces_eq (iblk m c 0 t) (iblk m c 1 t) _).trans (congrArg _ (whole_idx _ j))
  have hW' : W = wT (iblk m c 2 t) (iblk m c 3 t) := by
    rw [← hW, View.readCov_eq_canon']
    funext j
    exact (weightPieces_eq (iblk m c 2 t) (iblk m c 3 t) _).trans (congrArg _ (whole_idx _ j))
  rw [← hH', ← hW']
  exact scalePiecesK_eq W H (iblk m c 4 t) (iblk m c 5 t) (iblk m c 6 t) y

theorem case_B_ks (c : Dev nD) (t : Fin cfg0.N) (h : ¬ t.val % 48 = 0) :
    (outsAt0 m c t.val t.isLt).2.1 =
      scalesOf (kvals (outsAt0 m c (t.val - 1) (by have := t.isLt; omega)).2.2.2.2 (hidden (iblk m c 0 t) (iblk m c 1 t)) (iblk m c 4 t) (iblk m c 5 t) (iblk m c 6 t)) := by
  rw [outsAt0_B m c t h]
  funext y
  frame_out
  generalize hH : View.readCov (Val := Elt Ideal) (View.whole cc0_scratch1) _ _ = H
  have hH' : H = hidden (iblk m c 0 t) (iblk m c 1 t) := by
    rw [← hH, View.readCov_eq_canon']
    funext j
    exact (hiddenPieces_eq (iblk m c 0 t) (iblk m c 1 t) _).trans (congrArg _ (whole_idx _ j))
  generalize hW : View.read (Elt Ideal) (View.whole cc0_scratch0) _ = W
  have hW' : W = (outsAt0 m c (t.val - 1) (by have := t.isLt; omega)).2.2.2.2 := by
    rw [← hW]
    exact read_unread_whole _ _ _
  rw [← hH', ← hW']
  exact scalePiecesK_eq W H (iblk m c 4 t) (iblk m c 5 t) (iblk m c 6 t) y

theorem case_A_vc (c : Dev nD) (t : Fin cfg0.N) (h : t.val % 48 = 0) :
    (outsAt0 m c t.val t.isLt).2.2.1 =
      codesOf (vvals (wT (iblk m c 2 t) (iblk m c 3 t)) (hidden (iblk m c 0 t) (iblk m c 1 t)) (iblk m c 4 t)) := by
  rw [outsAt0_A m c t h]
  funext y
  frame_out
  generalize hH : View.readCov (Val := Elt Ideal) (View.whole cc0_scratch1) _ _ = H
  generalize hW : View.readCov (Val := Elt Ideal) (View.whole cc0_scratch0) _ _ = W
  have hH' : H = hidden (iblk m c 0 t) (iblk m c 1 t) := by
    rw [← hH, View.readCov_eq_canon']
    funext j
    exact (hiddenPieces_eq (iblk m c 0 t) (iblk m c 1 t) _).trans (congrArg _ (whole_idx _ j))
  have hW' : W = wT (iblk m c 2 t) (iblk m c 3 t) := by
    rw [← hW, View.readCov_eq_canon']
    funext j
    exact (weightPieces_eq (iblk m c 2 t) (iblk m c 3 t) _).trans (congrArg _ (whole_idx _ j))
  rw [← hH', ← hW']
  exact codePiecesV_eq W H (iblk m c 4 t) y

theorem case_B_vc (c : Dev nD) (t : Fin cfg0.N) (h : ¬ t.val % 48 = 0) :
    (outsAt0 m c t.val t.isLt).2.2.1 =
      codesOf (vvals (outsAt0 m c (t.val - 1) (by have := t.isLt; omega)).2.2.2.2 (hidden (iblk m c 0 t) (iblk m c 1 t)) (iblk m c 4 t)) := by
  rw [outsAt0_B m c t h]
  funext y
  frame_out
  generalize hH : View.readCov (Val := Elt Ideal) (View.whole cc0_scratch1) _ _ = H
  have hH' : H = hidden (iblk m c 0 t) (iblk m c 1 t) := by
    rw [← hH, View.readCov_eq_canon']
    funext j
    exact (hiddenPieces_eq (iblk m c 0 t) (iblk m c 1 t) _).trans (congrArg _ (whole_idx _ j))
  generalize hW : View.read (Elt Ideal) (View.whole cc0_scratch0) _ = W
  have hW' : W = (outsAt0 m c (t.val - 1) (by have := t.isLt; omega)).2.2.2.2 := by
    rw [← hW]
    exact read_unread_whole _ _ _
  rw [← hH', ← hW']
  exact codePiecesV_eq W H (iblk m c 4 t) y

theorem case_A_vs (c : Dev nD) (t : Fin cfg0.N) (h : t.val % 48 = 0) :
    (outsAt0 m c t.val t.isLt).2.2.2.1 =
      scalesOf (vvals (wT (iblk m c 2 t) (iblk m c 3 t)) (hidden (iblk m c 0 t) (iblk m c 1 t)) (iblk m c 4 t)) := by
  rw [outsAt0_A m c t h]
  funext y
  frame_out
  generalize hH : View.readCov (Val := Elt Ideal) (View.whole cc0_scratch1) _ _ = H
  generalize hW : View.readCov (Val := Elt Ideal) (View.whole cc0_scratch0) _ _ = W
  have hH' : H = hidden (iblk m c 0 t) (iblk m c 1 t) := by
    rw [← hH, View.readCov_eq_canon']
    funext j
    exact (hiddenPieces_eq (iblk m c 0 t) (iblk m c 1 t) _).trans (congrArg _ (whole_idx _ j))
  have hW' : W = wT (iblk m c 2 t) (iblk m c 3 t) := by
    rw [← hW, View.readCov_eq_canon']
    funext j
    exact (weightPieces_eq (iblk m c 2 t) (iblk m c 3 t) _).trans (congrArg _ (whole_idx _ j))
  rw [← hH', ← hW']
  exact scalePiecesV_eq W H (iblk m c 4 t) y

theorem case_B_vs (c : Dev nD) (t : Fin cfg0.N) (h : ¬ t.val % 48 = 0) :
    (outsAt0 m c t.val t.isLt).2.2.2.1 =
      scalesOf (vvals (outsAt0 m c (t.val - 1) (by have := t.isLt; omega)).2.2.2.2 (hidden (iblk m c 0 t) (iblk m c 1 t)) (iblk m c 4 t)) := by
  rw [outsAt0_B m c t h]
  funext y
  frame_out
  generalize hH : View.readCov (Val := Elt Ideal) (View.whole cc0_scratch1) _ _ = H
  have hH' : H = hidden (iblk m c 0 t) (iblk m c 1 t) := by
    rw [← hH, View.readCov_eq_canon']
    funext j
    exact (hiddenPieces_eq (iblk m c 0 t) (iblk m c 1 t) _).trans (congrArg _ (whole_idx _ j))
  generalize hW : View.read (Elt Ideal) (View.whole cc0_scratch0) _ = W
  have hW' : W = (outsAt0 m c (t.val - 1) (by have := t.isLt; omega)).2.2.2.2 := by
    rw [← hW]
    exact read_unread_whole _ _ _
  rw [← hH', ← hW']
  exact scalePiecesV_eq W H (iblk m c 4 t) y

theorem scratch_const (c : Dev nD) (n : ℕ) (hn : n < cfg0.N) :
    (outsAt0 m c n hn).2.2.2.2 = wT (iblk m c 2 ⟨0, by decide⟩) (iblk m c 3 ⟨0, by decide⟩) := by
  induction n with
  | zero => exact case_A_scratch m c ⟨0, hn⟩ rfl
  | succ n ih =>
    have h : ¬ (n + 1) % 48 = 0 := by have : n + 1 < 48 := hn; omega
    exact (case_B_scratch m c ⟨n + 1, hn⟩ h).trans (ih _)

end Cert.KvIdeal
-- ==== Proof.Arrays.lean ====
/- The kernel's four output arrays after the run, entry by entry, over the arrays its windows read. -/
module

public import proofs.«01_k».proof.Proof.Blocks

@[expose] public section

set_option maxRecDepth 16384

noncomputable section

namespace Cert.KvIdeal

open Idealize.ShloMosaic Idealize.SL.Sem Gen Cert.Kv
open Idealize.ShloMosaic.Pipeline (Dat)

/-- The codes of all tokens' heads `v b t n`, laid out as the kernel lays them out. -/
def codesArr (v : Fin 6 → Fin 2048 → Fin 4 → Fin 96 → EReal) (y : S6x384x2048.Idx) : EReal :=
  kcode (v (y 0) (y 2) ⟨(y 1 : ℕ) / 96, by have := (y 1).isLt; simp at this; omega⟩ ⟨(y 1 : ℕ) % 96, Nat.mod_lt _ (by norm_num)⟩)
    (kinv (amax (v (y 0) (y 2) ⟨(y 1 : ℕ) / 96, by have := (y 1).isLt; simp at this; omega⟩)))

/-- The scales of all tokens' heads. -/
def scalesArr (v : Fin 6 → Fin 2048 → Fin 4 → Fin 96 → EReal) (y : S6x4x2048.Idx) : EReal :=
  kscale (amax (v (y 0) (y 2) (y 1)))

variable (m : (ℓ : Loc nD τ sig) → Buf (Elt Ideal) ℓ)

theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, t.val % 8] ∧ win0_6.index t = ![0, t.val % 8]
    ∧ win0_7.index t = ![t.val / 8, 0, t.val % 8] ∧ win0_8.index t = ![t.val / 8, 0, t.val % 8]
    ∧ win0_9.index t = ![t.val / 8, 0, t.val % 8] ∧ win0_10.index t = ![t.val / 8, 0, t.val % 8] :=
  (by decide +kernel : ∀ t : Fin grid0.N, _)

/-- The batch a grid point works on. -/
def bOf (t : Fin cfg0.N) : Fin 6 := ⟨t.val / 8, by have := t.isLt; have : cfg0.N = 48 := N_0; omega⟩

/-- The position of a block's token. -/
def posOf (t : Fin cfg0.N) (u : Fin 256) : Fin 2048 := ⟨t.val % 8 * 256 + u, by omega⟩

theorem x_at (c : Dev nD) (t : Fin cfg0.N) (u : Fin 256) (l : Fin 4096) :
    iblk m c 0 t (ix3 0 u l) = V m c main_arg0 (ix3 (bOf t) (posOf t u) l) := by
  blk_ext [iblk, idx t, bOf, posOf]

theorem g_at (c : Dev nD) (t : Fin cfg0.N) (l : Fin 4096) : iblk m c 1 t (ix2 0 l) = V m c main_v20 (ix2 0 l) := by
  blk_ext [iblk, idx t]

theorem wk_at (c : Dev nD) (t : Fin cfg0.N) (l : Fin 4096) (r : Fin 384) : iblk m c 2 t (ix2 l r) = V m c main_arg2 (ix2 l r) := by
  blk_ext [iblk, idx t]

theorem wv_at (c : Dev nD) (t : Fin cfg0.N) (l : Fin 4096) (r : Fin 384) : iblk m c 3 t (ix2 l r) = V m c main_arg4 (ix2 l r) := by
  blk_ext [iblk, idx t]

theorem s_at (c : Dev nD) (t : Fin cfg0.N) (r : Fin 768) : iblk m c 4 t (ix2 r 0) = V m c main_v19 (ix2 r 0) := by
  blk_ext [iblk, idx t]

theorem cos_at (c : Dev nD) (t : Fin cfg0.N) (k : Fin 48) (u : Fin 256) :
    iblk m c 5 t (ix2 k u) = V m c main_v15 (ix2 k (posOf t u)) := by
  blk_ext [iblk, idx t, posOf]

theorem sin_at (c : Dev nD) (t : Fin cfg0.N) (k : Fin 48) (u : Fin 256) :
    iblk m c 6 t (ix2 k u) = V m c main_v16 (ix2 k (posOf t u)) := by
  blk_ext [iblk, idx t, posOf]

theorem wk_blk (c : Dev nD) (t : Fin cfg0.N) : iblk m c 2 t = V m c main_arg2 := by
  funext j
  idx_vars j
  exact wk_at m c t j0 j1

theorem wv_blk (c : Dev nD) (t : Fin cfg0.N) : iblk m c 3 t = V m c main_arg4 := by
  funext j
  idx_vars j
  exact wv_at m c t j0 j1

/-- A token's normalised row. -/
def row (c : Dev nD) (b : Fin 6) (p : Fin 2048) (l : Fin 4096) : EReal :=
  knorm (fun l => V m c main_arg0 (ix3 b p l)) (fun l => V m c main_v20 (ix2 0 l)) l

/-- A token's key heads. -/
def kTok (c : Dev nD) (b : Fin 6) (p : Fin 2048) (n : Fin 4) (i : Fin 96) : EReal :=
  rope (proj (row m c b p) (fun l r => V m c main_arg2 (ix2 l r)) (fun r => V m c main_v19 (ix2 ⟨r, by omega⟩ 0)))
    (fun k => V m c main_v15 (ix2 k p)) (fun k => V m c main_v16 (ix2 k p)) n i

/-- A token's value heads. -/
def vTok (c : Dev nD) (b : Fin 6) (p : Fin 2048) (n : Fin 4) (i : Fin 96) : EReal :=
  proj (row m c b p) (fun l r => V m c main_arg4 (ix2 l r)) (fun r => V m c main_v19 (ix2 ⟨384 + r, by omega⟩ 0)) ⟨n * 96 + i, by omega⟩

theorem hidden_blk (c : Dev nD) (t : Fin cfg0.N) (u : Fin 256) (l : Fin 4096) :
    hidden (iblk m c 0 t) (iblk m c 1 t) (ix2 u l) = row m c (bOf t) (posOf t u) l := by
  rw [hidden_at (n := u) (d := l) _ _ rfl rfl]
  simp only [Fin.eta, x_at, g_at]
  rfl

theorem kvals_blk (c : Dev nD) (t : Fin cfg0.N) (u : Fin 256) :
    kvals (wT (V m c main_arg2) (V m c main_arg4)) (hidden (iblk m c 0 t) (iblk m c 1 t)) (iblk m c 4 t) (iblk m c 5 t)
      (iblk m c 6 t) u = kTok m c (bOf t) (posOf t u) := by
  funext n i
  have e1 : (fun r : Fin 384 => yv (wT (V m c main_arg2) (V m c main_arg4)) (hidden (iblk m c 0 t) (iblk m c 1 t)) (iblk m c 4 t) u
      ⟨r, by omega⟩) = proj (row m c (bOf t) (posOf t u)) (fun l r => V m c main_arg2 (ix2 l r))
        (fun r => V m c main_v19 (ix2 ⟨r, by omega⟩ 0)) := by
    funext r
    unfold yv proj
    rw [s_at]
    refine congrArg (· * _) (Finset.sum_congr rfl fun l _ => ?_)
    rw [hidden_blk, wT_lo (n := r) (d := l) _ _ rfl rfl]
  have e2 : (fun k => iblk m c 5 t (ix2 k u)) = fun k => V m c main_v15 (ix2 k (posOf t u)) := funext fun k => cos_at m c t k u
  have e3 : (fun k => iblk m c 6 t (ix2 k u)) = fun k => V m c main_v16 (ix2 k (posOf t u)) := funext fun k => sin_at m c t k u
  unfold kvals kTok
  rw [e1, e2, e3]

theorem vvals_blk (c : Dev nD) (t : Fin cfg0.N) (u : Fin 256) :
    vvals (wT (V m c main_arg2) (V m c main_arg4)) (hidden (iblk m c 0 t) (iblk m c 1 t)) (iblk m c 4 t) u
      = vTok m c (bOf t) (posOf t u) := by
  funext n i
  unfold vvals vTok yv proj
  rw [s_at]
  simp only [Nat.add_assoc]
  congr 1
  refine Finset.sum_congr rfl fun l _ => ?_
  rw [hidden_blk, wT_hi (n := ⟨n * 96 + i, by omega⟩) (d := l) _ _ rfl rfl]

theorem out_kc (c : Dev nD) (t : Fin cfg0.N) :
    (outsAt0 m c t.val t.isLt).1 = codesOf (fun u => kTok m c (bOf t) (posOf t u)) := by
  rw [show (fun u => kTok m c (bOf t) (posOf t u)) = _ from funext fun u => (kvals_blk m c t u).symm]
  by_cases h : t.val % 48 = 0
  · rw [case_A_kc m c t h, wk_blk, wv_blk]
  · rw [case_B_kc m c t h, scratch_const, wk_blk, wv_blk]

theorem out_ks (c : Dev nD) (t : Fin cfg0.N) :
    (outsAt0 m c t.val t.isLt).2.1 = scalesOf (fun u => kTok m c (bOf t) (posOf t u)) := by
  rw [show (fun u => kTok m c (bOf t) (posOf t u)) = _ from funext fun u => (kvals_blk m c t u).symm]
  by_cases h : t.val % 48 = 0
  · rw [case_A_ks m c t h, wk_blk, wv_blk]
  · rw [case_B_ks m c t h, scratch_const, wk_blk, wv_blk]

theorem out_vc (c : Dev nD) (t : Fin cfg0.N) :
    (outsAt0 m c t.val t.isLt).2.2.1 = codesOf (fun u => vTok m c (bOf t) (posOf t u)) := by
  rw [show (fun u => vTok m c (bOf t) (posOf t u)) = _ from funext fun u => (vvals_blk m c t u).symm]
  by_cases h : t.val % 48 = 0
  · rw [case_A_vc m c t h, wk_blk, wv_blk]
  · rw [case_B_vc m c t h, scratch_const, wk_blk, wv_blk]

theorem out_vs (c : Dev nD) (t : Fin cfg0.N) :
    (outsAt0 m c t.val t.isLt).2.2.2.1 = scalesOf (fun u => vTok m c (bOf t) (posOf t u)) := by
  rw [show (fun u => vTok m c (bOf t) (posOf t u)) = _ from funext fun u => (vvals_blk m c t u).symm]
  by_cases h : t.val % 48 = 0
  · rw [case_A_vs m c t h, wk_blk, wv_blk]
  · rw [case_B_vs m c t h, scratch_const, wk_blk, wv_blk]

theorem final_kc (c : Dev nD) : (dats m 0 c).arrAt 7 (cfgs 0).N = codesArr (kTok m c) := by
  refine (dats m 0 c).arrAt_eq_of_covers 7 _ (by decide +kernel) fun t _ y => ?_
  blk_simp
  rw [after0_7, out_kc]
  have e : (win0_7.blk t).view.emb y = ix3 (bOf t) (y 1) (posOf t (y 2)) := by
    blk_ext [idx t, bOf, posOf]
  rw [e]
  rfl

theorem final_ks (c : Dev nD) : (dats m 0 c).arrAt 8 (cfgs 0).N = scalesArr (kTok m c) := by
  refine (dats m 0 c).arrAt_eq_of_covers 8 _ (by decide +kernel) fun t _ y => ?_
  blk_simp
  rw [after0_8, out_ks]
  have e : (win0_8.blk t).view.emb y = ix3 (bOf t) (y 1) (posOf t (y 2)) := by
    blk_ext [idx t, bOf, posOf]
  rw [e]
  rfl

theorem final_vc (c : Dev nD) : (dats m 0 c).arrAt 9 (cfgs 0).N = codesArr (vTok m c) := by
  refine (dats m 0 c).arrAt_eq_of_covers 9 _ (by decide +kernel) fun t _ y => ?_
  blk_simp
  rw [after0_9, out_vc]
  have e : (win0_9.blk t).view.emb y = ix3 (bOf t) (y 1) (posOf t (y 2)) := by
    blk_ext [idx t, bOf, posOf]
  rw [e]
  rfl

theorem final_vs (c : Dev nD) : (dats m 0 c).arrAt 10 (cfgs 0).N = scalesArr (vTok m c) := by
  refine (dats m 0 c).arrAt_eq_of_covers 10 _ (by decide +kernel) fun t _ y => ?_
  blk_simp
  rw [after0_10, out_vs]
  have e : (win0_10.blk t).view.emb y = ix3 (bOf t) (y 1) (posOf t (y 2)) := by
    blk_ext [idx t, bOf, posOf]
  rw [e]
  rfl

end Cert.KvIdeal
-- ==== Proof.KernelRun.lean ====
/- The kernel's run: what its four results hold, entry by entry, over the arrays its windows read. -/
module

public import proofs.«01_k».proof.Proof.Arrays
public import Idealize.ShloMosaic.Lib.Claim

@[expose] public section

set_option maxRecDepth 16384

noncomputable section

namespace Cert.KvIdeal

open Idealize.ShloMosaic Idealize.ShloMosaic.TcCoe Idealize.SL.Sem Gen Cert.Kv
open Idealize.ShloMosaic.Pipeline (Dat)

variable (m : (ℓ : Loc nD τ sig) → Buf (Elt Ideal) ℓ) (ρ : Dev nD → PrngReg)

theorem codesArr_at (v : Fin 6 → Fin 2048 → Fin 4 → Fin 96 → EReal) (b : Fin 6) (p : Fin 2048) (n : Fin 4) (i : Fin 96) :
    codesArr v (ix3 b ⟨n * 96 + i, by omega⟩ p) = kcode (v b p n i) (kinv (amax (v b p n))) := by
  have e1 : (⟨((n : ℕ) * 96 + i) / 96, by omega⟩ : Fin 4) = n := Fin.ext (by simp only; omega)
  have e2 : (⟨((n : ℕ) * 96 + i) % 96, Nat.mod_lt _ (by norm_num)⟩ : Fin 96) = i := Fin.ext (by simp only; omega)
  show kcode (v b p ⟨((n : ℕ) * 96 + i) / 96, _⟩ ⟨((n : ℕ) * 96 + i) % 96, _⟩) (kinv (amax (v b p ⟨((n : ℕ) * 96 + i) / 96, _⟩))) = _
  rw [e1, e2]

theorem tail_kc (c : Dev nD) (b : Fin 6) (p : Fin 2048) (n : Fin 4) (i : Fin 96) :
    Pipeline.afterTail₀ cfgs (dats m) 0 (V0 m) [hostOps1] c main_v23 (ix4 b p n i)
      = kcode (kTok m c b p n i) (kinv (amax (kTok m c b p n))) := by
  have e : Pipeline.withArrays (cfgs 0).spec c (V0 m c) (fun w => (dats m 0 c).arrAt w (cfgs 0).N) (Proc.tc.devRef main_v21_0)
      = codesArr (kTok m c) := (Pipeline.withArrays_arr spec0 launch0.win.arr_inj c _ _ 7).trans (final_kc m c)
  unfold Pipeline.afterTail₀
  simp only [hostOps1, List.flatten_cons, List.flatten_nil, List.append_nil]
  after_results
  rw [e]
  show transpose S6x2048x4x96 [0, 3, 1, 2] (shapeCast S6x4x96x2048 (codesArr (kTok m c)) shapeCasts_S6x384x2048_S6x4x96x2048) _ _ = _
  pointwise
  exact codesArr_at _ b p n i

theorem tail_vc (c : Dev nD) (b : Fin 6) (p : Fin 2048) (n : Fin 4) (i : Fin 96) :
    Pipeline.afterTail₀ cfgs (dats m) 0 (V0 m) [hostOps1] c main_v26 (ix4 b p n i)
      = kcode (vTok m c b p n i) (kinv (amax (vTok m c b p n))) := by
  have e : Pipeline.withArrays (cfgs 0).spec c (V0 m c) (fun w => (dats m 0 c).arrAt w (cfgs 0).N) (Proc.tc.devRef main_v21_2)
      = codesArr (vTok m c) := (Pipeline.withArrays_arr spec0 launch0.win.arr_inj c _ _ 9).trans (final_vc m c)
  unfold Pipeline.afterTail₀
  simp only [hostOps1, List.flatten_cons, List.flatten_nil, List.append_nil]
  after_results
  rw [e]
  show transpose S6x2048x4x96 [0, 3, 1, 2] (shapeCast S6x4x96x2048 (codesArr (vTok m c)) shapeCasts_S6x384x2048_S6x4x96x2048) _ _ = _
  pointwise
  exact codesArr_at _ b p n i

theorem tail_ks (c : Dev nD) (b : Fin 6) (p : Fin 2048) (n : Fin 4) :
    Pipeline.afterTail₀ cfgs (dats m) 0 (V0 m) [hostOps1] c main_v24 (ix3 b p n) = kscale (amax (kTok m c b p n)) := by
  have e : Pipeline.withArrays (cfgs 0).spec c (V0 m c) (fun w => (dats m 0 c).arrAt w (cfgs 0).N) (Proc.tc.devRef main_v21_1)
      = scalesArr (kTok m c) := (Pipeline.withArrays_arr spec0 launch0.win.arr_inj c _ _ 8).trans (final_ks m c)
  unfold Pipeline.afterTail₀
  simp only [hostOps1, List.flatten_cons, List.flatten_nil, List.append_nil]
  after_results
  rw [e]
  pointwise
  rfl

theorem tail_vs (c : Dev nD) (b : Fin 6) (p : Fin 2048) (n : Fin 4) :
    Pipeline.afterTail₀ cfgs (dats m) 0 (V0 m) [hostOps1] c main_v27 (ix3 b p n) = kscale (amax (vTok m c b p n)) := by
  have e : Pipeline.withArrays (cfgs 0).spec c (V0 m c) (fun w => (dats m 0 c).arrAt w (cfgs 0).N) (Proc.tc.devRef main_v21_3)
      = scalesArr (vTok m c) := (Pipeline.withArrays_arr spec0 launch0.win.arr_inj c _ _ 10).trans (final_vs m c)
  unfold Pipeline.afterTail₀
  simp only [hostOps1, List.flatten_cons, List.flatten_nil, List.append_nil]
  after_results
  rw [e]
  pointwise
  rfl

theorem V_v20 (c : Dev nD) (l : Fin 4096) : V m c main_v20 (ix2 0 l) = m ((c.tc : Thread nD τ).loc main_arg1) (ix1 l) := by
  show StableHlo.after [hostOps0].flatten (fun b => m (c, b)) (Proc.tc.devRef main_v20) _ = _
  simp only [hostOps0, List.flatten_cons, List.flatten_nil, List.append_nil]
  after_results
  pointwise

theorem V_v19_lo (c : Dev nD) (r : Fin 384) : V m c main_v19 (ix2 ⟨r, by omega⟩ 0) = m ((c.tc : Thread nD τ).loc main_arg3) (ix1 r) := by
  show StableHlo.after [hostOps0].flatten (fun b => m (c, b)) (Proc.tc.devRef main_v19) _ = _
  simp only [hostOps0, List.flatten_cons, List.flatten_nil, List.append_nil]
  after_results
  pointwise

theorem V_v19_hi (c : Dev nD) (r : Fin 384) : V m c main_v19 (ix2 ⟨384 + r, by omega⟩ 0) = m ((c.tc : Thread nD τ).loc main_arg5) (ix1 r) := by
  show StableHlo.after [hostOps0].flatten (fun b => m (c, b)) (Proc.tc.devRef main_v19) _ = _
  simp only [hostOps0, List.flatten_cons, List.flatten_nil, List.append_nil]
  after_results
  pointwise

theorem V_v15 (c : Dev nD) (k : Fin 48) (p : Fin 2048) : V m c main_v15 (ix2 k p) = Ideal.cos (angle k p) := by
  show StableHlo.after [hostOps0].flatten (fun b => m (c, b)) (Proc.tc.devRef main_v15) _ = _
  simp only [hostOps0, List.flatten_cons, List.flatten_nil, List.append_nil]
  after_results
  pointwise [angle]

theorem V_v16 (c : Dev nD) (k : Fin 48) (p : Fin 2048) : V m c main_v16 (ix2 k p) = Ideal.sin (angle k p) := by
  show StableHlo.after [hostOps0].flatten (fun b => m (c, b)) (Proc.tc.devRef main_v16) _ = _
  simp only [hostOps0, List.flatten_cons, List.flatten_nil, List.append_nil]
  after_results
  pointwise [angle]

theorem run : θ_run defs (onTc (τ := τ) (main (F := Ideal))) ⟨m, fun _ => 0, ρ⟩ (fun r => ∀ c : Dev nD,
      r.2.mem ((c.tc : Thread nD τ).loc main_v23) = (fun j => kcode (kTok m c (j 0) (j 1) (j 2) (j 3)) (kinv (amax (kTok m c (j 0) (j 1) (j 2)))) : S6x2048x4x96.Idx → EReal)
      ∧ r.2.mem ((c.tc : Thread nD τ).loc main_v24) = (fun j => kscale (amax (kTok m c (j 0) (j 1) (j 2))) : S6x2048x4.Idx → EReal)
      ∧ r.2.mem ((c.tc : Thread nD τ).loc main_v26) = (fun j => kcode (vTok m c (j 0) (j 1) (j 2) (j 3)) (kinv (amax (vTok m c (j 0) (j 1) (j 2)))) : S6x2048x4x96.Idx → EReal)
      ∧ r.2.mem ((c.tc : Thread nD τ).loc main_v27) = (fun j => kscale (amax (vTok m c (j 0) (j 1) (j 2))) : S6x2048x4.Idx → EReal)) := by
  refine (θ_run defs _ _).mono (fun r h c => ⟨((h c).2 main_v23 (by decide)).trans ?_, ((h c).2 main_v24 (by decide)).trans ?_,
    ((h c).2 main_v26 (by decide)).trans ?_, ((h c).2 main_v27 (by decide)).trans ?_⟩) (run_main m ρ)
  · funext j
    idx_vars j
    exact tail_kc m c j0 j1 j2 j3
  · funext j
    idx_vars j
    exact tail_ks m c j0 j1 j2
  · funext j
    idx_vars j
    exact tail_vc m c j0 j1 j2 j3
  · funext j
    idx_vars j
    exact tail_vs m c j0 j1 j2

end Cert.KvIdeal
-- ==== Proof.Reference.lean ====
/- The reference's payloads at an index: its normalised rows, its heads, its quantiser. -/
module

public import proofs.«01_k».proof.Proof.Quantise
public import proofs.«01_k».proof.Proof.Gen.KvRefIdeal.Skeleton
public import Idealize.ShloMosaic.Lib.Pointwise

@[expose] public section

set_option maxRecDepth 16384

noncomputable section

namespace Cert.KvRefIdeal

open Idealize.ShloMosaic Idealize.SL.Sem Gen Cert.Kv

/-- The largest absolute value along the last axis. -/
def amaxR (v : FVec Ideal S6x2048x4x96 .f32) : FVec Ideal S6x2048x4 .f32 :=
  multiReduction .maximumf [3] S6x2048x4 (absf v) 0xFF800000#32 reduces_S6x2048x4x96_S6x2048x4 (.inl rfl) rfl

/-- The scale the reference takes from the largest absolute value. -/
def scaleR (p : FVec Ideal S1x1x1x252 .f32) (a : FVec Ideal S6x2048x4 .f32) : FVec Ideal S6x2048x4 .f32 :=
  select (cmpf .oeq a (broadcast S6x2048x4 (Scalar.ofBits (F := Ideal) .f32 0x00000000#32)))
    (broadcast S6x2048x4 (Scalar.ofBits (F := Ideal) .f32 0x3F800000#32))
    (multiReduction .minimumf [3] S6x2048x4
      (select
        (cmpf .olt
          (broadcastTo S6x2048x4x252
            (shapeCast S6x2048x4x1 (mulf a (broadcast S6x2048x4 (Scalar.ofBits (F := Ideal) .f32 0x3B124925#32)))
              shapeCasts_S6x2048x4_S6x2048x4x1) broadcasts_S6x2048x4x1_S6x2048x4x252)
          (broadcastTo S6x2048x4x252 p broadcasts_S1x1x1x252_S6x2048x4x252))
        (broadcastTo S6x2048x4x252 (shapeCast S1x1x1x252 p shapeCasts_S1x1x1x252_S1x1x1x252)
          broadcasts_S1x1x1x252_S6x2048x4x252)
        (broadcast S6x2048x4x252 (Scalar.ofBits (F := Ideal) .f32 0x7E800000#32)))
      0x7F800000#32 reduces_S6x2048x4x252_S6x2048x4 (.inl rfl) rfl)

/-- The codes the reference takes from a scale. -/
def codesR (sc : FVec Ideal S6x2048x4 .f32) (v : FVec Ideal S6x2048x4x96 .f32) : FVec Ideal S6x2048x4x96 .fp8e4m3 :=
  truncf .fp8e4m3
    (minimumf (broadcast S6x2048x4x96 (Scalar.ofBits (F := Ideal) .f32 0x43E00000#32))
      (maximumf (broadcast S6x2048x4x96 (Scalar.ofBits (F := Ideal) .f32 0xC3E00000#32))
        (divf v (broadcastTo S6x2048x4x96 (shapeCast S6x2048x4x1 sc shapeCasts_S6x2048x4_S6x2048x4x1)
          broadcasts_S6x2048x4x1_S6x2048x4x96)))) bitsLt_fp8e4m3_f32

theorem pay1_eq (p v) : k0_pay1 (F := Ideal) p v = scaleR p (amaxR v) := rfl
theorem pay2_eq (p v) : k0_pay2 (F := Ideal) p v = codesR (scaleR p (amaxR v)) v := rfl
theorem pay14_eq (a b p c d e f) : k0_pay14 (F := Ideal) a b p c d e f = scaleR p (amaxR (k0_pay12 a b c d e f)) := rfl
theorem pay15_eq (a b p c d e f) : k0_pay15 (F := Ideal) a b p c d e f
  = codesR (scaleR p (amaxR (k0_pay12 a b c d e f))) (k0_pay12 a b c d e f) := rfl

theorem amaxR_at (v : FVec Ideal S6x2048x4x96 .f32) (b : Fin 6) (t : Fin 2048) (n : Fin 4) :
    amaxR v (ix3 b t n) = amax fun i => v (ix4 b t n i) := by
  pointwise [amaxR, amax]

theorem scaleR_at (p : FVec Ideal S1x252 .f32) (a : FVec Ideal S6x2048x4 .f32) (b : Fin 6) (t : Fin 2048) (n : Fin 4) :
    scaleR (k0_pay6 p) a (ix3 b t n) = rscale (fun k => p (ix2 0 k)) (a (ix3 b t n)) := by
  pointwise [scaleR, k0_pay6, rscale]

theorem codesR_at (v : FVec Ideal S6x2048x4x96 .f32) (sc : FVec Ideal S6x2048x4 .f32) (b : Fin 6) (t : Fin 2048) (n : Fin 4)
    (i : Fin 96) : codesR sc v (ix4 b t n i) = rcode (v (ix4 b t n i)) (sc (ix3 b t n)) := by
  pointwise [codesR, rcode]

section
variable (x : FVec Ideal S6x2048x4096 .bf16) (g : FVec Ideal S1x4096 .f32) (w : FVec Ideal S4096x384 .fp8e4m3)
  (s : FVec Ideal S1x384 .f32) (c sn : FVec Ideal S2048x48 .f32) (p : FVec Ideal S1x252 .f32)

/-- The reference's projected values of a token. -/
def projTok (b : Fin 6) (t : Fin 2048) (r : Fin 384) : EReal :=
  projR (rnorm (fun l => x (ix3 b t l)) (fun l => g (ix2 0 l))) (fun l r => w (ix2 l r)) (fun r => s (ix2 0 r)) r

/-- The reference's key heads of a token. -/
def kRef (b : Fin 6) (t : Fin 2048) (n : Fin 4) (i : Fin 96) : EReal :=
  rope (projTok x g w s b t) (fun k => c (ix2 t k)) (fun k => sn (ix2 t k)) n i

/-- The reference's value heads of a token. -/
def vRef (b : Fin 6) (t : Fin 2048) (n : Fin 4) (i : Fin 96) : EReal :=
  projTok x g w s b t ⟨n * 96 + i, by omega⟩

theorem headV_at (b : Fin 6) (t : Fin 2048) (n : Fin 4) (i : Fin 96) :
    k0_pay13 (F := Ideal) (k0_pay3 x g) w s (ix4 b t n i) = vRef x g w s b t n i := by
  pointwise [k0_pay13, k0_pay3, vRef, projTok, projR, rnorm]

theorem headK_at (b : Fin 6) (t : Fin 2048) (n : Fin 4) (i : Fin 96) :
    k0_pay12 (F := Ideal) (k0_pay4 c) (k0_pay5 sn) (k0_pay8 x g w s) (k0_pay9 x g w s) (k0_pay10 x g c w s) (k0_pay11 sn)
      (ix4 b t n i) = kRef x g w s c sn b t n i := by
  pointwise [k0_pay12, k0_pay4, k0_pay5, k0_pay8, k0_pay9, k0_pay10, k0_pay11, k0_pay7, k0_pay3, kRef, rope, projTok, projR,
    rnorm]

theorem scalesK_at (b : Fin 6) (t : Fin 2048) (n : Fin 4) :
    k0_pay14 (F := Ideal) (k0_pay4 c) (k0_pay5 sn) (k0_pay6 p) (k0_pay8 x g w s) (k0_pay9 x g w s) (k0_pay10 x g c w s)
      (k0_pay11 sn) (ix3 b t n) = rscale (fun k => p (ix2 0 k)) (amax (kRef x g w s c sn b t n)) := by
  rw [pay14_eq, scaleR_at, amaxR_at]
  simp only [headK_at]

theorem codesK_at (b : Fin 6) (t : Fin 2048) (n : Fin 4) (i : Fin 96) :
    k0_pay15 (F := Ideal) (k0_pay4 c) (k0_pay5 sn) (k0_pay6 p) (k0_pay8 x g w s) (k0_pay9 x g w s) (k0_pay10 x g c w s)
      (k0_pay11 sn) (ix4 b t n i)
      = rcode (kRef x g w s c sn b t n i) (rscale (fun k => p (ix2 0 k)) (amax (kRef x g w s c sn b t n))) := by
  rw [pay15_eq, codesR_at, scaleR_at, amaxR_at]
  simp only [headK_at]

theorem scalesV_at (b : Fin 6) (t : Fin 2048) (n : Fin 4) :
    k0_pay1 (F := Ideal) (k0_pay6 p) (k0_pay13 (k0_pay3 x g) w s) (ix3 b t n)
      = rscale (fun k => p (ix2 0 k)) (amax (vRef x g w s b t n)) := by
  rw [pay1_eq, scaleR_at, amaxR_at]
  simp only [headV_at]

theorem codesV_at (b : Fin 6) (t : Fin 2048) (n : Fin 4) (i : Fin 96) :
    k0_pay2 (F := Ideal) (k0_pay6 p) (k0_pay13 (k0_pay3 x g) w s) (ix4 b t n i)
      = rcode (vRef x g w s b t n i) (rscale (fun k => p (ix2 0 k)) (amax (vRef x g w s b t n))) := by
  rw [pay2_eq, codesR_at, scaleR_at, amaxR_at]
  simp only [headV_at]
end

end Cert.KvRefIdeal
-- ==== Proof.ReferenceRun.lean ====
/- The reference's run: its four results, entry by entry. -/
module

public import proofs.«01_k».proof.Proof.Reference
public import proofs.«01_k».proof.Proof.Gen.KvRefIdeal.Frame
public import Idealize.ShloMosaic.Lib.Pipeline.ValueKit
public import Idealize.ShloMosaic.Lib.Claim

@[expose] public section

set_option maxRecDepth 16384

noncomputable section

namespace Cert.KvRefIdeal

open Idealize.ShloMosaic Idealize.ShloMosaic.TcCoe Idealize.SL.Sem Gen Cert.Kv
open Idealize.ShloMosaic.Pipeline (Dat)

variable (m : (ℓ : Loc nD τ sig) → Buf (Elt Ideal) ℓ) (ρ : Dev nD → PrngReg)

theorem ld_0 (X : Vec Ideal S6x2048x4096 .bf16) : View.ld X r0_0 = X :=
  View.ld_unit_lit _ X (by decide)

theorem ld_1 (X : Vec Ideal S1x4096 .f32) : View.ld X r0_1 = X :=
  View.ld_unit_lit _ X (by decide)

theorem ld_2 (X : Vec Ideal S2048x48 .f32) : View.ld X r0_2 = X :=
  View.ld_unit_lit _ X (by decide)

theorem ld_3 (X : Vec Ideal S1x252 .f32) : View.ld X r0_3 = X :=
  View.ld_unit_lit _ X (by decide)

theorem ld_4 (X : Vec Ideal S4096x384 .fp8e4m3) : View.ld X r0_4 = X :=
  View.ld_unit_lit _ X (by decide)

theorem ld_5 (X : Vec Ideal S1x384 .f32) : View.ld X r0_5 = X :=
  View.ld_unit_lit _ X (by decide)

section
variable (x0 : Vec Ideal S6x2048x4096 .bf16) (x1 : Vec Ideal S1x4096 .f32) (x2 : Vec Ideal S4096x384 .fp8e4m3)
  (x3 : Vec Ideal S1x384 .f32) (x4 : Vec Ideal S4096x384 .fp8e4m3) (x5 : Vec Ideal S1x384 .f32)
  (x6 x7 : Vec Ideal S2048x48 .f32) (x8 : Vec Ideal S1x252 .f32)

theorem pay16_eq : k0_pay16 (F := Ideal) x0 x1 x2 x3 x4 x5 x6 x7 x8 = k0_pay4 x6 := by
  unfold k0_pay16
  simp only [ld_0, ld_1, ld_2, ld_3, ld_4, ld_5]

theorem pay17_eq : k0_pay17 (F := Ideal) x0 x1 x2 x3 x4 x5 x6 x7 x8 = k0_pay5 x7 := by
  unfold k0_pay17
  simp only [ld_0, ld_1, ld_2, ld_3, ld_4, ld_5]

theorem pay18_eq : k0_pay18 (F := Ideal) x0 x1 x2 x3 x4 x5 x6 x7 x8 = k0_pay6 x8 := by
  unfold k0_pay18
  simp only [ld_0, ld_1, ld_2, ld_3, ld_4, ld_5]

theorem pay19_eq : k0_pay19 (F := Ideal) x0 x1 x2 x3 x4 x5 x6 x7 x8 = k0_pay8 x0 x1 x2 x3 := by
  unfold k0_pay19
  simp only [ld_0, ld_1, ld_2, ld_3, ld_4, ld_5]

theorem pay20_eq : k0_pay20 (F := Ideal) x0 x1 x2 x3 x4 x5 x6 x7 x8 = k0_pay9 x0 x1 x2 x3 := by
  unfold k0_pay20
  simp only [ld_0, ld_1, ld_2, ld_3, ld_4, ld_5]

theorem pay21_eq : k0_pay21 (F := Ideal) x0 x1 x2 x3 x4 x5 x6 x7 x8 = k0_pay10 x0 x1 x6 x2 x3 := by
  unfold k0_pay21
  simp only [ld_0, ld_1, ld_2, ld_3, ld_4, ld_5]

theorem pay22_eq : k0_pay22 (F := Ideal) x0 x1 x2 x3 x4 x5 x6 x7 x8 = k0_pay11 x7 := by
  unfold k0_pay22
  simp only [ld_0, ld_1, ld_2, ld_3, ld_4, ld_5]

theorem pay23_eq : k0_pay23 (F := Ideal) x0 x1 x2 x3 x4 x5 x6 x7 x8 = k0_pay13 (k0_pay3 x0 x1) x4 x5 := by
  unfold k0_pay23
  simp only [ld_0, ld_1, ld_2, ld_3, ld_4, ld_5]

theorem out_kc (b : Fin 6) (t : Fin 2048) (n : Fin 4) (i : Fin 96) :
    k0_pay15 (F := Ideal) (k0_pay16 x0 x1 x2 x3 x4 x5 x6 x7 x8)
      (k0_pay17 x0 x1 x2 x3 x4 x5 x6 x7 x8)
      (k0_pay18 x0 x1 x2 x3 x4 x5 x6 x7 x8)
      (k0_pay19 x0 x1 x2 x3 x4 x5 x6 x7 x8)
      (k0_pay20 x0 x1 x2 x3 x4 x5 x6 x7 x8)
      (k0_pay21 x0 x1 x2 x3 x4 x5 x6 x7 x8)
      (k0_pay22 x0 x1 x2 x3 x4 x5 x6 x7 x8) (ix4 b t n i)
      = rcode (kRef x0 x1 x2 x3 x6 x7 b t n i) (rscale (fun k => x8 (ix2 0 k)) (amax (kRef x0 x1 x2 x3 x6 x7 b t n))) := by
  rw [pay16_eq, pay17_eq, pay18_eq, pay19_eq, pay20_eq, pay21_eq, pay22_eq]
  exact codesK_at x0 x1 x2 x3 x6 x7 x8 b t n i

theorem out_ks (b : Fin 6) (t : Fin 2048) (n : Fin 4) :
    k0_pay14 (F := Ideal) (k0_pay16 x0 x1 x2 x3 x4 x5 x6 x7 x8)
      (k0_pay17 x0 x1 x2 x3 x4 x5 x6 x7 x8)
      (k0_pay18 x0 x1 x2 x3 x4 x5 x6 x7 x8)
      (k0_pay19 x0 x1 x2 x3 x4 x5 x6 x7 x8)
      (k0_pay20 x0 x1 x2 x3 x4 x5 x6 x7 x8)
      (k0_pay21 x0 x1 x2 x3 x4 x5 x6 x7 x8)
      (k0_pay22 x0 x1 x2 x3 x4 x5 x6 x7 x8) (ix3 b t n)
      = rscale (fun k => x8 (ix2 0 k)) (amax (kRef x0 x1 x2 x3 x6 x7 b t n)) := by
  rw [pay16_eq, pay17_eq, pay18_eq, pay19_eq, pay20_eq, pay21_eq, pay22_eq]
  exact scalesK_at x0 x1 x2 x3 x6 x7 x8 b t n

theorem out_vc (b : Fin 6) (t : Fin 2048) (n : Fin 4) (i : Fin 96) :
    k0_pay2 (F := Ideal) (k0_pay18 x0 x1 x2 x3 x4 x5 x6 x7 x8)
      (k0_pay23 x0 x1 x2 x3 x4 x5 x6 x7 x8) (ix4 b t n i)
      = rcode (vRef x0 x1 x4 x5 b t n i) (rscale (fun k => x8 (ix2 0 k)) (amax (vRef x0 x1 x4 x5 b t n))) := by
  rw [pay18_eq, pay23_eq]
  exact codesV_at x0 x1 x4 x5 x8 b t n i

theorem out_vs (b : Fin 6) (t : Fin 2048) (n : Fin 4) :
    k0_pay1 (F := Ideal) (k0_pay18 x0 x1 x2 x3 x4 x5 x6 x7 x8)
      (k0_pay23 x0 x1 x2 x3 x4 x5 x6 x7 x8) (ix3 b t n)
      = rscale (fun k => x8 (ix2 0 k)) (amax (vRef x0 x1 x4 x5 b t n)) := by
  rw [pay18_eq, pay23_eq]
  exact scalesV_at x0 x1 x4 x5 x8 b t n

end

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem blk_0 (c : Dev nD) (t : Fin cfg0.N) : iblk m c 0 t = V m c main_arg0 := by
  blk_ext! [iblk, idx t]

theorem blk_1 (c : Dev nD) (t : Fin cfg0.N) : iblk m c 1 t = V m c main_v21 := by
  blk_ext! [iblk, idx t]

theorem blk_2 (c : Dev nD) (t : Fin cfg0.N) : iblk m c 2 t = V m c main_arg2 := by
  blk_ext! [iblk, idx t]

theorem blk_3 (c : Dev nD) (t : Fin cfg0.N) : iblk m c 3 t = V m c main_v22 := by
  blk_ext! [iblk, idx t]

theorem blk_4 (c : Dev nD) (t : Fin cfg0.N) : iblk m c 4 t = V m c main_arg4 := by
  blk_ext! [iblk, idx t]

theorem blk_5 (c : Dev nD) (t : Fin cfg0.N) : iblk m c 5 t = V m c main_v23 := by
  blk_ext! [iblk, idx t]

theorem blk_6 (c : Dev nD) (t : Fin cfg0.N) : iblk m c 6 t = V m c main_v24 := by
  blk_ext! [iblk, idx t]

theorem blk_7 (c : Dev nD) (t : Fin cfg0.N) : iblk m c 7 t = V m c main_v25 := by
  blk_ext! [iblk, idx t]

theorem blk_8 (c : Dev nD) (t : Fin cfg0.N) : iblk m c 8 t = V m c main_v26 := by
  blk_ext! [iblk, idx t]

/-- The reference's result `kc`. -/
def res_kc (c : Dev nD) : S6x2048x4x96.Idx → EReal := fun j =>
  rcode (kRef (V m c main_arg0) (V m c main_v21) (V m c main_arg2) (V m c main_v22) (V m c main_v24) (V m c main_v25) (j 0) (j 1) (j 2) (j 3)) (rscale (fun k => V m c main_v26 (ix2 0 k)) (amax (kRef (V m c main_arg0) (V m c main_v21) (V m c main_arg2) (V m c main_v22) (V m c main_v24) (V m c main_v25) (j 0) (j 1) (j 2))))

theorem final_kc (c : Dev nD) : (dats m 0 c).arrAt 9 (cfgs 0).N = res_kc m c := by
  refine (dats m 0 c).arrAt_eq_of_after_last 9 t0_0 (by decide +kernel) _ fun j => ?_
  blk_simp
  rw [after0_9]
  frame_out
  rw [blk_0 m c t0_0, blk_1 m c t0_0, blk_2 m c t0_0, blk_3 m c t0_0, blk_4 m c t0_0, blk_5 m c t0_0, blk_6 m c t0_0, blk_7 m c t0_0, blk_8 m c t0_0]
  idx_vars j
  exact out_kc _ _ _ _ _ _ _ _ _ j0 j1 j2 j3

/-- The reference's result `ks`. -/
def res_ks (c : Dev nD) : S6x2048x4.Idx → EReal := fun j =>
  rscale (fun k => V m c main_v26 (ix2 0 k)) (amax (kRef (V m c main_arg0) (V m c main_v21) (V m c main_arg2) (V m c main_v22) (V m c main_v24) (V m c main_v25) (j 0) (j 1) (j 2)))

theorem final_ks (c : Dev nD) : (dats m 0 c).arrAt 10 (cfgs 0).N = res_ks m c := by
  refine (dats m 0 c).arrAt_eq_of_after_last 10 t0_0 (by decide +kernel) _ fun j => ?_
  blk_simp
  rw [after0_10]
  frame_out
  rw [blk_0 m c t0_0, blk_1 m c t0_0, blk_2 m c t0_0, blk_3 m c t0_0, blk_4 m c t0_0, blk_5 m c t0_0, blk_6 m c t0_0, blk_7 m c t0_0, blk_8 m c t0_0]
  idx_vars j
  exact out_ks _ _ _ _ _ _ _ _ _ j0 j1 j2

/-- The reference's result `vc`. -/
def res_vc (c : Dev nD) : S6x2048x4x96.Idx → EReal := fun j =>
  rcode (vRef (V m c main_arg0) (V m c main_v21) (V m c main_arg4) (V m c main_v23) (j 0) (j 1) (j 2) (j 3)) (rscale (fun k => V m c main_v26 (ix2 0 k)) (amax (vRef (V m c main_arg0) (V m c main_v21) (V m c main_arg4) (V m c main_v23) (j 0) (j 1) (j 2))))

theorem final_vc (c : Dev nD) : (dats m 0 c).arrAt 11 (cfgs 0).N = res_vc m c := by
  refine (dats m 0 c).arrAt_eq_of_after_last 11 t0_0 (by decide +kernel) _ fun j => ?_
  blk_simp
  rw [after0_11]
  frame_out
  rw [blk_0 m c t0_0, blk_1 m c t0_0, blk_2 m c t0_0, blk_3 m c t0_0, blk_4 m c t0_0, blk_5 m c t0_0, blk_6 m c t0_0, blk_7 m c t0_0, blk_8 m c t0_0]
  idx_vars j
  exact out_vc _ _ _ _ _ _ _ _ _ j0 j1 j2 j3

/-- The reference's result `vs`. -/
def res_vs (c : Dev nD) : S6x2048x4.Idx → EReal := fun j =>
  rscale (fun k => V m c main_v26 (ix2 0 k)) (amax (vRef (V m c main_arg0) (V m c main_v21) (V m c main_arg4) (V m c main_v23) (j 0) (j 1) (j 2)))

theorem final_vs (c : Dev nD) : (dats m 0 c).arrAt 12 (cfgs 0).N = res_vs m c := by
  refine (dats m 0 c).arrAt_eq_of_after_last 12 t0_0 (by decide +kernel) _ fun j => ?_
  blk_simp
  rw [after0_12]
  frame_out
  rw [blk_0 m c t0_0, blk_1 m c t0_0, blk_2 m c t0_0, blk_3 m c t0_0, blk_4 m c t0_0, blk_5 m c t0_0, blk_6 m c t0_0, blk_7 m c t0_0, blk_8 m c t0_0]
  idx_vars j
  exact out_vs _ _ _ _ _ _ _ _ _ j0 j1 j2

theorem V_v21 (c : Dev nD) (l : Fin 4096) : V m c main_v21 (ix2 0 l) = m ((c.tc : Thread nD τ).loc main_arg1) (ix1 l) := by
  show StableHlo.after hostOps0 (fun b => m (c, b)) (Proc.tc.devRef main_v21) _ = _
  simp only [hostOps0]
  after_results
  pointwise

theorem V_v22 (c : Dev nD) (r : Fin 384) : V m c main_v22 (ix2 0 r) = m ((c.tc : Thread nD τ).loc main_arg3) (ix1 r) := by
  show StableHlo.after hostOps0 (fun b => m (c, b)) (Proc.tc.devRef main_v22) _ = _
  simp only [hostOps0]
  after_results
  pointwise

theorem V_v23 (c : Dev nD) (r : Fin 384) : V m c main_v23 (ix2 0 r) = m ((c.tc : Thread nD τ).loc main_arg5) (ix1 r) := by
  show StableHlo.after hostOps0 (fun b => m (c, b)) (Proc.tc.devRef main_v23) _ = _
  simp only [hostOps0]
  after_results
  pointwise

theorem V_v24 (c : Dev nD) (p : Fin 2048) (k : Fin 48) : V m c main_v24 (ix2 p k) = Ideal.cos (angle k p) := by
  rw [angle, mul_comm]
  show StableHlo.after hostOps0 (fun b => m (c, b)) (Proc.tc.devRef main_v24) _ = _
  simp only [hostOps0]
  after_results
  pointwise

theorem V_v25 (c : Dev nD) (p : Fin 2048) (k : Fin 48) : V m c main_v25 (ix2 p k) = Ideal.sin (angle k p) := by
  rw [angle, mul_comm]
  show StableHlo.after hostOps0 (fun b => m (c, b)) (Proc.tc.devRef main_v25) _ = _
  simp only [hostOps0]
  after_results
  pointwise

theorem V_v26 (c : Dev nD) (k : Fin 252) : V m c main_v26 (ix2 0 k) = power k := by
  show StableHlo.after hostOps0 (fun b => m (c, b)) (Proc.tc.devRef main_v26) _ = _
  simp only [hostOps0]
  after_results
  pointwise [power]

theorem run : θ_run defs (onTc (τ := τ) (main (F := Ideal))) ⟨m, fun _ => 0, ρ⟩ (fun r => ∀ c : Dev nD,
      r.2.mem ((c.tc : Thread nD τ).loc main_v27_0) = res_kc m c
      ∧ r.2.mem ((c.tc : Thread nD τ).loc main_v27_1) = res_ks m c
      ∧ r.2.mem ((c.tc : Thread nD τ).loc main_v27_2) = res_vc m c
      ∧ r.2.mem ((c.tc : Thread nD τ).loc main_v27_3) = res_vs m c) :=
  (θ_run defs _ _).mono (fun r h c => ⟨((h c).1 9).trans (final_kc m c), ((h c).1 10).trans (final_ks m c),
    ((h c).1 11).trans (final_vc m c), ((h c).1 12).trans (final_vs m c)⟩) (run_main m ρ)

end Cert.KvRefIdeal
-- ==== Proof.QuantiseEq.lean ====
/- The kernel's quantiser is the reference's: counting the powers of two that are at most `u` gives the exponent of the
   least power of two above `u`, the kernel's shifted exponent fields are that power and its inverse, and multiplying by the
   inverse is dividing by the power. Also: the kernel's row normalisation and dot product are the reference's. -/
module

public import proofs.«01_k».proof.Proof.Quantise
public import Idealize.ShloMosaic.Lib.IdealHost

@[expose] public section

set_option maxRecDepth 16384

noncomputable section

namespace Cert.Kv

open Idealize.ShloMosaic

/-- The power of two at place `k` of the table: `2 ^ (k - 126)`. -/
def P (k : ℕ) : EReal := (((2 : ℝ) ^ ((k : ℤ) - 126) : ℝ) : EReal)

theorem P_mono {a b : ℕ} (h : a ≤ b) : P a ≤ P b := by
  unfold P
  exact EReal.coe_le_coe_iff.2 (zpow_le_zpow_right₀ (by norm_num) (by omega))

theorem fields : ∀ j : Fin 255, BitVec.extractLsb' 31 1 (BitVec.ofNat 32 j <<< 23#32) = 0#1
    ∧ (BitVec.extractLsb' 23 8 (BitVec.ofNat 32 j <<< 23#32)).toNat = j
    ∧ BitVec.extractLsb' 0 23 (BitVec.ofNat 32 j <<< 23#32) = 0#23 := by decide +kernel

/-- An exponent field shifted into place is a power of two. -/
theorem ofBits_shift (j : ℕ) (h0 : 1 ≤ j) (h1 : j ≤ 254) :
    Ideal.ofBits .f32 (IntOp.shli .vector (BitVec.ofNat 32 j) 23#32) = (((2 : ℝ) ^ ((j : ℤ) - 127) : ℝ) : EReal) := by
  obtain ⟨f0, f1, f2⟩ := fields ⟨j, by omega⟩
  simp only at f0 f1 f2
  have e : IntOp.shli .vector (BitVec.ofNat 32 j) 23#32 = BitVec.ofNat 32 j <<< 23#32 := by
    simp [IntOp.shli]
  rw [e]
  show Ideal.ieee 8 23 (BitVec.ofNat 32 j <<< 23#32) = _
  unfold Ideal.ieee
  simp only [f0, f1, f2]
  rw [if_neg (by omega), if_neg (by omega)]
  congr 1
  have h : (2 : ℝ) ^ ((j : ℤ) - 127) = 2 ^ (23 : ℤ) * 2 ^ ((j : ℤ) - 127 - 23) := by
    rw [← zpow_add₀ (by norm_num)]; congr 1; ring
  rw [h]
  norm_num

theorem ofBits_small : Ideal.ofBits .f32 0x7E800000#32 = P 252 := by
  have := ofBits_shift 253 (by norm_num) (by norm_num)
  have e : IntOp.shli .vector (BitVec.ofNat 32 253) 23#32 = 0x7E800000#32 := by decide +kernel
  rw [e] at this
  rw [this]; rfl

/-- The table entry that the kernel builds at place `k`. -/
theorem kpower (k : Fin 252) :
    Ideal.ofBits .f32 (IntOp.shli .vector (IntOp.addi (BitVec.ofNat 32 k) 1#32) 23#32) = P k := by
  have e : IntOp.addi (BitVec.ofNat 32 (k : ℕ)) 1#32 = BitVec.ofNat 32 (k + 1) := by
    simp [IntOp.addi, BitVec.ofNat_add]
  rw [e, ofBits_shift _ (by omega) (by omega)]
  unfold P
  congr 2
  push_cast; ring

theorem toInt_power : ∀ k : Fin 252, (IntOp.addi 4294967170#32 (BitVec.ofNat 32 k)).toInt = (k : ℤ) - 126 := by
  decide +kernel

/-- The reference's table entry at place `k`. -/
theorem power_eq (k : Fin 252) : power k = P k := by
  have e2 : Ideal.ofBits .f32 1073741824#32 = ((2 : ℝ) : EReal) := by
    simp [Ideal.ofBits, Ideal.ieee, -EReal.coe_mul]; norm_num
  unfold power P
  rw [e2]
  show Ideal.pow _ (((IntOp.addi 4294967170#32 (BitVec.ofNat 32 k)).toInt : ℝ) : EReal) = _
  rw [toInt_power]
  show ((Real.rpow 2 (((k : ℤ) - 126 : ℤ) : ℝ) : ℝ) : EReal) = _
  congr 1
  exact Real.rpow_intCast _ _

/-- How many table entries are at most `u`. -/
theorem exists_count (u : EReal) : ∃ n ≤ 252, ∀ k < 252, P k ≤ u ↔ k < n := by
  classical
  by_cases h : ∃ k, k < 252 ∧ u < P k
  · refine ⟨Nat.find h, (Nat.find_spec h).1.le, fun k hk => ⟨fun hp => ?_, fun hl => ?_⟩⟩
    · by_contra hc
      exact absurd ((Nat.find_spec h).2.trans_le (P_mono (not_lt.1 hc))) (not_lt.2 hp)
    · have := Nat.find_min h hl
      by_contra hc
      exact this ⟨hk, not_le.1 hc⟩
  · exact ⟨252, le_rfl, fun k hk => ⟨fun _ => hk, fun _ => not_lt.1 fun hl => h ⟨k, hk, hl⟩⟩⟩

theorem fold_addi {α : Type*} (s : Finset α) (f : α → ℕ) :
    s.fold IntOp.addi 0#32 (fun k => BitVec.ofNat 32 (f k)) = BitVec.ofNat 32 (∑ k ∈ s, f k) := by
  classical
  induction s using Finset.induction_on with
  | empty => rfl
  | insert a s ha ih =>
    rw [Finset.fold_insert ha, ih, Finset.sum_insert ha, BitVec.ofNat_add]
    rfl

theorem sum_below (n : ℕ) (hn : n ≤ 252) : ∑ k : Fin 252, (if (k : ℕ) < n then 1 else 0) = n := by
  rw [Finset.sum_boole, Fin.card_filter_val_lt]
  simpa using hn

theorem pcount_eq (u : EReal) (n : ℕ) (hn : n ≤ 252) (h : ∀ k < 252, P k ≤ u ↔ k < n) : pcount u = BitVec.ofNat 32 n := by
  have e : ∀ k : Fin 252,
      (if Ideal.ofBits .f32 (IntOp.shli .vector (IntOp.addi (BitVec.ofNat 32 k) 1#32) 23#32) ≤ u then 1#32 else 0#32)
      = BitVec.ofNat 32 (if (k : ℕ) < n then 1 else 0) := by
    intro k
    rw [kpower]
    by_cases hk : (k : ℕ) < n
    · rw [if_pos ((h k k.2).2 hk), if_pos hk]
    · rw [if_neg (fun hc => hk ((h k k.2).1 hc)), if_neg hk]
  calc pcount u = Finset.univ.fold IntOp.addi 0#32 fun k : Fin 252 => BitVec.ofNat 32 (if (k : ℕ) < n then 1 else 0) :=
        Finset.fold_congr fun k _ => e k
    _ = BitVec.ofNat 32 (∑ k : Fin 252, (if (k : ℕ) < n then 1 else 0)) := fold_addi _ _
    _ = _ := by rw [sum_below n hn]

theorem scaleWord : ∀ n : Fin 253, IntOp.addi (IntOp.subi (BitVec.ofNat 32 n) 126#32) 127#32 = BitVec.ofNat 32 (n + 1) := by
  decide +kernel

theorem invWord : ∀ n : Fin 253, IntOp.subi 127#32 (IntOp.subi (BitVec.ofNat 32 n) 126#32) = BitVec.ofNat 32 (253 - n) := by
  decide +kernel

theorem rfold_eq (u : EReal) (n : ℕ) (hn : n ≤ 252) (h : ∀ k < 252, P k ≤ u ↔ k < n) :
    (Finset.univ.fold min (Ideal.ofBits .f32 0x7F800000#32) fun k : Fin 252 =>
      if u < power k then power k else Ideal.ofBits .f32 0x7E800000#32) = P n := by
  have top : Ideal.ofBits .f32 0x7F800000#32 = ⊤ := by simp [Ideal.ofBits, Ideal.ieee]
  rw [top, ofBits_small]
  simp only [power_eq]
  apply le_antisymm
  · rw [Finset.fold_min_le]
    right
    by_cases hc : n < 252
    · refine ⟨⟨n, hc⟩, Finset.mem_univ _, ?_⟩
      rw [if_pos (not_le.1 fun hp => absurd ((h n hc).1 hp) (lt_irrefl _))]
    · have : n = 252 := by omega
      subst this
      refine ⟨⟨0, by norm_num⟩, Finset.mem_univ _, ?_⟩
      rw [if_neg (not_lt.2 ((h 0 (by norm_num)).2 (by norm_num)))]
  · rw [Finset.le_fold_min]
    refine ⟨le_top, fun k _ => ?_⟩
    split_ifs with hk
    · exact P_mono (not_lt.1 fun hl => absurd hk (not_lt.2 ((h k k.2).2 hl)))
    · exact P_mono hn

/-- The two scales agree, and the inverse scale is the inverse of a nonzero real scale. -/
theorem scales (a : EReal) : ∃ r : ℝ, r ≠ 0 ∧ kscale a = (r : EReal) ∧ rscale power a = (r : EReal)
    ∧ kinv a = ((1 / r : ℝ) : EReal) := by
  by_cases h0 : a = 0
  · refine ⟨1, one_ne_zero, ?_, ?_, ?_⟩
    · unfold kscale expo
      rw [if_pos h0]
      have e : IntOp.addi 0#32 127#32 = BitVec.ofNat 32 127 := by decide
      rw [e, ofBits_shift _ (by norm_num) (by norm_num)]
      norm_num
    · unfold rscale
      rw [if_pos h0]; rfl
    · unfold kinv expo
      rw [if_pos h0]
      have e : IntOp.subi 127#32 0#32 = BitVec.ofNat 32 127 := by decide
      rw [e, ofBits_shift _ (by norm_num) (by norm_num)]
      norm_num
  · obtain ⟨n, hn, h⟩ := exists_count (a * Ideal.ofBits .f32 0x3B124925#32)
    have he : expo a = IntOp.subi (BitVec.ofNat 32 n) 126#32 := by
      unfold expo
      rw [if_neg h0, pcount_eq _ n hn h]
    refine ⟨(2 : ℝ) ^ ((n : ℤ) - 126), zpow_ne_zero _ (by norm_num), ?_, ?_, ?_⟩
    · unfold kscale
      rw [he, scaleWord ⟨n, by omega⟩, ofBits_shift _ (by simp) (by simp only; omega)]
      congr 2
      push_cast; ring
    · unfold rscale
      rw [if_neg h0]
      exact rfold_eq _ n hn h
    · unfold kinv
      rw [he, invWord ⟨n, by omega⟩, ofBits_shift _ (by simp only; omega) (by simp only; omega)]
      congr 1
      rw [one_div, ← zpow_neg]
      congr 1
      simp only
      omega

theorem kscale_eq (a : EReal) : kscale a = rscale power a := by
  obtain ⟨r, -, h1, h2, -⟩ := scales a
  rw [h1, h2]

theorem kcode_eq (x a : EReal) : kcode x (kinv a) = rcode x (rscale power a) := by
  obtain ⟨r, hr, -, h2, h3⟩ := scales a
  unfold kcode rcode
  rw [h2, h3, Ideal.div_coe hr]

theorem knorm_eq (x g : Fin 4096 → EReal) (d : Fin 4096) : knorm x g d = rnorm x g d := by
  have e1 : Ideal.ofBits .f32 0x39800000#32 = ((1 / 4096 : ℝ) : EReal) := by
    simp [Ideal.ofBits, Ideal.ieee, -EReal.coe_mul]; norm_num
  have e2 : Ideal.ofBits .f32 0x45800000#32 = ((4096 : ℝ) : EReal) := by
    simp [Ideal.ofBits, Ideal.ieee, -EReal.coe_mul]; norm_num
  unfold knorm rnorm
  rw [e1, e2, Ideal.div_coe (by norm_num)]

theorem proj_eq (h : Fin 4096 → EReal) (w : Fin 4096 → Fin 384 → EReal) (s : Fin 384 → EReal) (r : Fin 384) :
    proj h w s r = projR h w s r := by
  unfold proj projR
  simp only [mul_comm]

end Cert.Kv
-- ==== Proof.Equal.lean ====
/- The two runs agree: over arguments that agree, the kernel's heads are the reference's, so are their codes and scales. -/
module

public import proofs.«01_k».proof.Proof.KernelRun
public import proofs.«01_k».proof.Proof.ReferenceRun
public import proofs.«01_k».proof.Proof.QuantiseEq

@[expose] public section

set_option maxRecDepth 16384

noncomputable section

namespace Cert.Kv

open Idealize.ShloMosaic Idealize.ShloMosaic.TcCoe Idealize.SL.Sem

variable (m : (ℓ : Loc Cert.KvIdeal.nD Cert.KvIdeal.τ Cert.KvIdeal.sig) → Buf (Elt Ideal) ℓ)
  (m' : (ℓ : Loc Cert.KvRefIdeal.nD Cert.KvRefIdeal.τ Cert.KvRefIdeal.sig) → Buf (Elt Ideal) ℓ)

/-- The two memories agree on the arguments of core `c`. -/
def Agree (c : Dev Cert.KvIdeal.nD) : Prop :=
  m' ((c.tc : Thread Cert.KvRefIdeal.nD Cert.KvRefIdeal.τ).loc Cert.KvRefIdeal.main_arg0) = m ((c.tc : Thread Cert.KvIdeal.nD Cert.KvIdeal.τ).loc Cert.KvIdeal.main_arg0)
    ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
    ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
    ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
    ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
    ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)

variable {m m'} {c : Dev Cert.KvIdeal.nD} (h : Agree m m' c)

include h

theorem row_eq (b : Fin 6) (p : Fin 2048) :
    Cert.KvIdeal.row m c b p = rnorm (fun l => Cert.KvRefIdeal.Gen.V m' c Cert.KvRefIdeal.main_arg0 (ix3 b p l))
      (fun l => Cert.KvRefIdeal.Gen.V m' c Cert.KvRefIdeal.main_v21 (ix2 0 l)) := by
  funext l
  unfold Cert.KvIdeal.row
  rw [knorm_eq, Cert.KvIdeal.Gen.V_main_arg0, Cert.KvRefIdeal.Gen.V_main_arg0, h.1]
  have e : (fun l => Cert.KvIdeal.Gen.V m c Cert.KvIdeal.main_v20 (ix2 0 l)) = fun l => Cert.KvRefIdeal.Gen.V m' c Cert.KvRefIdeal.main_v21 (ix2 0 l) :=
    funext fun l => (Cert.KvIdeal.V_v20 m c l).trans ((congrFun h.2.1 (ix1 l)).symm.trans (Cert.KvRefIdeal.V_v21 m' c l).symm)
  exact congrArg (fun g => rnorm _ g l) e

theorem projK_eq (b : Fin 6) (p : Fin 2048) :
    proj (Cert.KvIdeal.row m c b p) (fun l r => Cert.KvIdeal.Gen.V m c Cert.KvIdeal.main_arg2 (ix2 l r))
        (fun r => Cert.KvIdeal.Gen.V m c Cert.KvIdeal.main_v19 (ix2 ⟨r, by omega⟩ 0))
      = Cert.KvRefIdeal.projTok (Cert.KvRefIdeal.Gen.V m' c Cert.KvRefIdeal.main_arg0)
        (Cert.KvRefIdeal.Gen.V m' c Cert.KvRefIdeal.main_v21) (Cert.KvRefIdeal.Gen.V m' c Cert.KvRefIdeal.main_arg2)
        (Cert.KvRefIdeal.Gen.V m' c Cert.KvRefIdeal.main_v22) b p := by
  funext r
  rw [proj_eq]
  unfold Cert.KvRefIdeal.projTok
  rw [row_eq h, Cert.KvIdeal.Gen.V_main_arg2, Cert.KvRefIdeal.Gen.V_main_arg2, h.2.2.1]
  have e : (fun r : Fin 384 => Cert.KvIdeal.Gen.V m c Cert.KvIdeal.main_v19 (ix2 ⟨r, by omega⟩ 0)) = fun r => Cert.KvRefIdeal.Gen.V m' c Cert.KvRefIdeal.main_v22 (ix2 0 r) :=
    funext fun r => (Cert.KvIdeal.V_v19_lo m c r).trans
      ((congrFun h.2.2.2.1 (ix1 r)).symm.trans (Cert.KvRefIdeal.V_v22 m' c r).symm)
  exact congrArg (fun s => projR _ _ s r) e

theorem projV_eq (b : Fin 6) (p : Fin 2048) :
    proj (Cert.KvIdeal.row m c b p) (fun l r => Cert.KvIdeal.Gen.V m c Cert.KvIdeal.main_arg4 (ix2 l r))
        (fun r => Cert.KvIdeal.Gen.V m c Cert.KvIdeal.main_v19 (ix2 ⟨384 + r, by omega⟩ 0))
      = Cert.KvRefIdeal.projTok (Cert.KvRefIdeal.Gen.V m' c Cert.KvRefIdeal.main_arg0)
        (Cert.KvRefIdeal.Gen.V m' c Cert.KvRefIdeal.main_v21) (Cert.KvRefIdeal.Gen.V m' c Cert.KvRefIdeal.main_arg4)
        (Cert.KvRefIdeal.Gen.V m' c Cert.KvRefIdeal.main_v23) b p := by
  funext r
  rw [proj_eq]
  unfold Cert.KvRefIdeal.projTok
  rw [row_eq h, Cert.KvIdeal.Gen.V_main_arg4, Cert.KvRefIdeal.Gen.V_main_arg4, h.2.2.2.2.1]
  have e : (fun r : Fin 384 => Cert.KvIdeal.Gen.V m c Cert.KvIdeal.main_v19 (ix2 ⟨384 + r, by omega⟩ 0)) = fun r => Cert.KvRefIdeal.Gen.V m' c Cert.KvRefIdeal.main_v23 (ix2 0 r) :=
    funext fun r => (Cert.KvIdeal.V_v19_hi m c r).trans
      ((congrFun h.2.2.2.2.2 (ix1 r)).symm.trans (Cert.KvRefIdeal.V_v23 m' c r).symm)
  exact congrArg (fun s => projR _ _ s r) e

theorem kTok_eq (b : Fin 6) (p : Fin 2048) :
    Cert.KvIdeal.kTok m c b p = Cert.KvRefIdeal.kRef (Cert.KvRefIdeal.Gen.V m' c Cert.KvRefIdeal.main_arg0)
        (Cert.KvRefIdeal.Gen.V m' c Cert.KvRefIdeal.main_v21) (Cert.KvRefIdeal.Gen.V m' c Cert.KvRefIdeal.main_arg2)
        (Cert.KvRefIdeal.Gen.V m' c Cert.KvRefIdeal.main_v22) (Cert.KvRefIdeal.Gen.V m' c Cert.KvRefIdeal.main_v24)
        (Cert.KvRefIdeal.Gen.V m' c Cert.KvRefIdeal.main_v25) b p := by
  funext n i
  unfold Cert.KvIdeal.kTok Cert.KvRefIdeal.kRef
  rw [projK_eq h]
  have e1 : (fun k => Cert.KvIdeal.Gen.V m c Cert.KvIdeal.main_v15 (ix2 k p)) = fun k => Cert.KvRefIdeal.Gen.V m' c Cert.KvRefIdeal.main_v24 (ix2 p k) :=
    funext fun k => (Cert.KvIdeal.V_v15 m c k p).trans (Cert.KvRefIdeal.V_v24 m' c p k).symm
  have e2 : (fun k => Cert.KvIdeal.Gen.V m c Cert.KvIdeal.main_v16 (ix2 k p)) = fun k => Cert.KvRefIdeal.Gen.V m' c Cert.KvRefIdeal.main_v25 (ix2 p k) :=
    funext fun k => (Cert.KvIdeal.V_v16 m c k p).trans (Cert.KvRefIdeal.V_v25 m' c p k).symm
  exact congrFun (congrFun (congr (congrArg (rope _) e1) e2) n) i

theorem vTok_eq (b : Fin 6) (p : Fin 2048) :
    Cert.KvIdeal.vTok m c b p = Cert.KvRefIdeal.vRef (Cert.KvRefIdeal.Gen.V m' c Cert.KvRefIdeal.main_arg0)
        (Cert.KvRefIdeal.Gen.V m' c Cert.KvRefIdeal.main_v21) (Cert.KvRefIdeal.Gen.V m' c Cert.KvRefIdeal.main_arg4)
        (Cert.KvRefIdeal.Gen.V m' c Cert.KvRefIdeal.main_v23) b p := by
  funext n i
  unfold Cert.KvIdeal.vTok Cert.KvRefIdeal.vRef
  rw [projV_eq h]

omit h in
theorem powers_eq : (fun k => Cert.KvRefIdeal.Gen.V m' c Cert.KvRefIdeal.main_v26 (ix2 0 k)) = power :=
  funext fun k => Cert.KvRefIdeal.V_v26 m' c k

theorem kc_at (b : Fin 6) (p : Fin 2048) (n : Fin 4) (i : Fin 96) :
    rcode (Cert.KvRefIdeal.kRef (Cert.KvRefIdeal.Gen.V m' c Cert.KvRefIdeal.main_arg0) (Cert.KvRefIdeal.Gen.V m' c Cert.KvRefIdeal.main_v21) (Cert.KvRefIdeal.Gen.V m' c Cert.KvRefIdeal.main_arg2)
        (Cert.KvRefIdeal.Gen.V m' c Cert.KvRefIdeal.main_v22) (Cert.KvRefIdeal.Gen.V m' c Cert.KvRefIdeal.main_v24) (Cert.KvRefIdeal.Gen.V m' c Cert.KvRefIdeal.main_v25) b p n i)
      (rscale (fun k => Cert.KvRefIdeal.Gen.V m' c Cert.KvRefIdeal.main_v26 (ix2 0 k))
      (amax (Cert.KvRefIdeal.kRef (Cert.KvRefIdeal.Gen.V m' c Cert.KvRefIdeal.main_arg0) (Cert.KvRefIdeal.Gen.V m' c Cert.KvRefIdeal.main_v21) (Cert.KvRefIdeal.Gen.V m' c Cert.KvRefIdeal.main_arg2)
        (Cert.KvRefIdeal.Gen.V m' c Cert.KvRefIdeal.main_v22) (Cert.KvRefIdeal.Gen.V m' c Cert.KvRefIdeal.main_v24) (Cert.KvRefIdeal.Gen.V m' c Cert.KvRefIdeal.main_v25) b p n)))
      = kcode (Cert.KvIdeal.kTok m c b p n i) (kinv (amax (Cert.KvIdeal.kTok m c b p n))) := by
  rw [powers_eq, kcode_eq, kTok_eq h]

theorem kc_eq : Cert.KvRefIdeal.res_kc m' c = fun j : Cert.KvIdeal.S6x2048x4x96.Idx =>
    kcode (Cert.KvIdeal.kTok m c (j 0) (j 1) (j 2) (j 3)) (kinv (amax (Cert.KvIdeal.kTok m c (j 0) (j 1) (j 2)))) :=
  funext fun j => kc_at h (j 0) (j 1) (j 2) (j 3)

theorem ks_at (b : Fin 6) (p : Fin 2048) (n : Fin 4) :
    rscale (fun k => Cert.KvRefIdeal.Gen.V m' c Cert.KvRefIdeal.main_v26 (ix2 0 k))
      (amax (Cert.KvRefIdeal.kRef (Cert.KvRefIdeal.Gen.V m' c Cert.KvRefIdeal.main_arg0) (Cert.KvRefIdeal.Gen.V m' c Cert.KvRefIdeal.main_v21) (Cert.KvRefIdeal.Gen.V m' c Cert.KvRefIdeal.main_arg2)
        (Cert.KvRefIdeal.Gen.V m' c Cert.KvRefIdeal.main_v22) (Cert.KvRefIdeal.Gen.V m' c Cert.KvRefIdeal.main_v24) (Cert.KvRefIdeal.Gen.V m' c Cert.KvRefIdeal.main_v25) b p n))
      = kscale (amax (Cert.KvIdeal.kTok m c b p n)) := by
  rw [powers_eq, kscale_eq, kTok_eq h]

theorem ks_eq : Cert.KvRefIdeal.res_ks m' c = fun j : Cert.KvIdeal.S6x2048x4.Idx =>
    kscale (amax (Cert.KvIdeal.kTok m c (j 0) (j 1) (j 2))) :=
  funext fun j => ks_at h (j 0) (j 1) (j 2)

theorem vc_at (b : Fin 6) (p : Fin 2048) (n : Fin 4) (i : Fin 96) :
    rcode (Cert.KvRefIdeal.vRef (Cert.KvRefIdeal.Gen.V m' c Cert.KvRefIdeal.main_arg0) (Cert.KvRefIdeal.Gen.V m' c Cert.KvRefIdeal.main_v21)
        (Cert.KvRefIdeal.Gen.V m' c Cert.KvRefIdeal.main_arg4) (Cert.KvRefIdeal.Gen.V m' c Cert.KvRefIdeal.main_v23) b p n i)
      (rscale (fun k => Cert.KvRefIdeal.Gen.V m' c Cert.KvRefIdeal.main_v26 (ix2 0 k))
      (amax (Cert.KvRefIdeal.vRef (Cert.KvRefIdeal.Gen.V m' c Cert.KvRefIdeal.main_arg0) (Cert.KvRefIdeal.Gen.V m' c Cert.KvRefIdeal.main_v21)
        (Cert.KvRefIdeal.Gen.V m' c Cert.KvRefIdeal.main_arg4) (Cert.KvRefIdeal.Gen.V m' c Cert.KvRefIdeal.main_v23) b p n)))
      = kcode (Cert.KvIdeal.vTok m c b p n i) (kinv (amax (Cert.KvIdeal.vTok m c b p n))) := by
  rw [powers_eq, kcode_eq, vTok_eq h]

theorem vc_eq : Cert.KvRefIdeal.res_vc m' c = fun j : Cert.KvIdeal.S6x2048x4x96.Idx =>
    kcode (Cert.KvIdeal.vTok m c (j 0) (j 1) (j 2) (j 3)) (kinv (amax (Cert.KvIdeal.vTok m c (j 0) (j 1) (j 2)))) :=
  funext fun j => vc_at h (j 0) (j 1) (j 2) (j 3)

theorem vs_at (b : Fin 6) (p : Fin 2048) (n : Fin 4) :
    rscale (fun k => Cert.KvRefIdeal.Gen.V m' c Cert.KvRefIdeal.main_v26 (ix2 0 k))
      (amax (Cert.KvRefIdeal.vRef (Cert.KvRefIdeal.Gen.V m' c Cert.KvRefIdeal.main_arg0) (Cert.KvRefIdeal.Gen.V m' c Cert.KvRefIdeal.main_v21)
        (Cert.KvRefIdeal.Gen.V m' c Cert.KvRefIdeal.main_arg4) (Cert.KvRefIdeal.Gen.V m' c Cert.KvRefIdeal.main_v23) b p n))
      = kscale (amax (Cert.KvIdeal.vTok m c b p n)) := by
  rw [powers_eq, kscale_eq, vTok_eq h]

theorem vs_eq : Cert.KvRefIdeal.res_vs m' c = fun j : Cert.KvIdeal.S6x2048x4.Idx =>
    kscale (amax (Cert.KvIdeal.vTok m c (j 0) (j 1) (j 2))) :=
  funext fun j => vs_at h (j 0) (j 1) (j 2)

end Cert.Kv
-- ==== Proof.lean ====
module

public import proofs.«01_k».proof.Defs
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvRefIdeal.Skeleton
public import proofs.«01_k».proof.Proof.Gen.KvRefIdeal.Launch
public import proofs.«01_k».proof.Proof.Gen.KvRefIdeal.Points
public import proofs.«01_k».proof.Proof.Gen.KvRefIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kv

theorem algebraic : Cert.algebraic_KvIdeal_KvRefIdeal (hKvIdeal := Cert.KvIdeal.Gen.facts) (hKvRefIdeal := Cert.KvRefIdeal.Gen.facts) := by
  intro m g m' g' _ h
  refine ⟨fun c => Cert.KvRefIdeal.res_kc m' c, fun c => Cert.KvRefIdeal.res_ks m' c, fun c => Cert.KvRefIdeal.res_vc m' c,
    fun c => Cert.KvRefIdeal.res_vs m' c, ?_, ?_⟩
  · refine (θ_run _ _ _).mono (fun r hr c => ?_) (θ_run_and (Cert.KvIdeal.run m g) (Cert.KvIdeal.Gen.unchanged m g))
    obtain ⟨h0, h1, h2, h3⟩ := hr.1 c
    exact ⟨h0.trans (kc_eq (h c)).symm, h1.trans (ks_eq (h c)).symm, h2.trans (vc_eq (h c)).symm, h3.trans (vs_eq (h c)).symm,
      hr.2 c⟩
  · refine (θ_run _ _ _).mono (fun r hr c => ?_)
      (θ_run_and (Cert.KvRefIdeal.run m' g') (Cert.KvRefIdeal.Gen.unchanged m' g'))
    obtain ⟨h0, h1, h2, h3⟩ := hr.1 c
    exact ⟨h0, h1, h2, h3, hr.2 c⟩

theorem claim : Cert.Claim := ⟨Cert.Kv.Gen.facts, Cert.KvIdeal.Gen.facts, Cert.KvRefIdeal.Gen.facts,
  fun m ρ _ => Cert.Kv.Gen.frame m ρ, fun m ρ _ => Cert.KvIdeal.Gen.frame m ρ, fun m ρ _ => Cert.KvRefIdeal.Gen.frame m ρ,
  trivial, algebraic⟩

end Cert.Proof

end
